-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_settled [hPre_three_settled : Cert.Pre_three_settled.Facts] (m : (ℓ : Loc Cert.KernelIdeal.nD Cert.KernelIdeal.τ Cert.KernelIdeal.sig) → Buf (Elt Ideal) ℓ) : Prop :=
  ∀ c : Dev Cert.KernelIdeal.nD,
    (Cert.Pre_three_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_settled [hPre_three_settled : Cert.Pre_three_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_settled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_three_settled [hKernelIdeal : Cert.KernelIdeal.Facts] [hPre_three_settled : Cert.Pre_three_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_three_settled [hReferenceIdeal : Cert.ReferenceIdeal.Facts] [hPre_three_settled : Cert.Pre_three_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_three_settled [hKernelIdeal : Cert.KernelIdeal.Facts] [hReferenceIdeal : Cert.ReferenceIdeal.Facts] [hPre_three_settled : Cert.Pre_three_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_three_settled : Cert.Pre_three_settled.Facts),
    quiescent_Kernel (hKernel := hKernel)
    ∧ quiescent_KernelIdeal (hKernelIdeal := hKernelIdeal)
    ∧ quiescent_KernelIdeal_pre_three_settled (hKernelIdeal := hKernelIdeal) (hPre_three_settled := hPre_three_settled)
    ∧ quiescent_ReferenceIdeal (hReferenceIdeal := hReferenceIdeal)
    ∧ quiescent_ReferenceIdeal_pre_three_settled (hReferenceIdeal := hReferenceIdeal) (hPre_three_settled := hPre_three_settled)
    ∧ preserves_Kernel_KernelIdeal
    ∧ algebraic_KernelIdeal_ReferenceIdeal_pre_three_settled (hKernelIdeal := hKernelIdeal) (hReferenceIdeal := hReferenceIdeal) (hPre_three_settled := hPre_three_settled)
-- ==== Pre_three_settled.lean ====
abbrev S784x1536 : Shape := ⟨2, ![784, 1536]⟩
abbrev S65536x1536 : Shape := ⟨2, ![65536, 1536]⟩
abbrev S_ : Shape := ⟨0, ![]⟩
abbrev S784 : Shape := ⟨1, ![784]⟩
abbrev S784x1 : Shape := ⟨2, ![784, 1]⟩
abbrev S65536 : Shape := ⟨1, ![65536]⟩
abbrev S1x65536 : Shape := ⟨2, ![1, 65536]⟩
abbrev S784x65536 : Shape := ⟨2, ![784, 65536]⟩
abbrev S1536x65536 : Shape := ⟨2, ![1536, 65536]⟩

class Facts : Prop where
  reducesTo_S784x1536_S784_d1 : S784x1536.ReducesTo [1] S784
  h_S_ : 0 < S_.numel
  bcast_S784_S784x1_0 : S784.BroadcastsInDim S784x1 (![0] : Fin 1 → Fin S784x1.rank)
  reducesTo_S65536x1536_S65536_d1 : S65536x1536.ReducesTo [1] S65536
  bcast_S65536_S1x65536_1 : S65536.BroadcastsInDim S1x65536 (![1] : Fin 1 → Fin S1x65536.rank)
  bcast_S784x1_S784x65536_0_1 : S784x1.BroadcastsInDim S784x65536 (![0, 1] : Fin 2 → Fin S784x65536.rank)
  bcast_S1x65536_S784x65536_0_1 : S1x65536.BroadcastsInDim S784x65536 (![0, 1] : Fin 2 → Fin S784x65536.rank)
  transposes_S65536x1536_S1536x65536_1_0 : S65536x1536.Transposes [1, 0] S1536x65536
  bcast_S_S784x65536 : S_.BroadcastsInDim S784x65536 (![] : Fin 0 → Fin S784x65536.rank)
  reducesTo_S784x65536_S784_d1 : S784x65536.ReducesTo [1] S784
  bcast_S_S784 : S_.BroadcastsInDim S784 (![] : Fin 0 → Fin S784.rank)
  dot_S784x1536_S1536x65536_S784x65536_1_0_0_1_n_n_wf : DotDims.WF S784x1536 S1536x65536 S784x65536 [1] [0] [0] [1] [] []

variable [Facts]

def dot_S784x1536_S1536x65536_S784x65536_1_0_0_1_n_n : DotDims S784x1536 S1536x65536 S784x65536 where
  lhsContracting := [1]
  rhsContracting := [0]
  lhsNonContracting := [0]
  rhsNonContracting := [1]
  lhsBatch := []
  rhsBatch := []
  wf := dot_S784x1536_S1536x65536_S784x65536_1_0_0_1_n_n_wf
def fn_where {F : FTy → Type} [FloatOps F] (arg0 : IVec S784x65536 1) (arg1 : FVec F S_ .f32) (arg2 : FVec F S_ .f32) : FVec F S784x65536 .f32 :=
  let v0 : FVec F S784x65536 .f32 := broadcastInDim S784x65536 ![] bcast_S_S784x65536 arg1
  let v1 : FVec F S784x65536 .f32 := broadcastInDim S784x65536 ![] bcast_S_S784x65536 arg2
  let v2 : FVec F S784x65536 .f32 := select arg0 v0 v1
  v2

def fn_part1 {F : FTy → Type} [FloatOps F] (main_v13 : FVec F S784x65536 .f32) (main_v17 : FVec F S784x65536 .f32) : IVec S784 1 :=
  let main_cst_5 : FVec F S_ .f32 := constant S_ .f32 0x00000000#32
  let main_v18 : FVec F S784 .f32 := (fun x v => Host.reduceAdd x v reducesTo_S784x65536_S784_d1 h_S_) main_v17 main_cst_5
  let main_cst_6 : FVec F S_ .f32 := constant S_ .f32 0x7F800000#32
  let main_v19 : FVec F S784x65536 .f32 := broadcastInDim S784x65536 ![] bcast_S_S784x65536 main_cst_6
  let main_v20 : IVec S784x65536 1 := cmpf .olt main_v13 main_v19
  let main_cst_7 : FVec F S_ .f32 := constant S_ .f32 0x3F800000#32
  let main_cst_8 : FVec F S_ .f32 := constant S_ .f32 0x00000000#32
  let main_v21 : FVec F S784x65536 .f32 := fn_where (F := F) main_v20 main_cst_7 main_cst_8
  let main_v22 : FVec F S784x65536 .f32 := id main_v21
  let main_cst_9 : FVec F S_ .f32 := constant S_ .f32 0x00000000#32
  let main_v23 : FVec F S784 .f32 := (fun x v => Host.reduceAdd x v reducesTo_S784x65536_S784_d1 h_S_) main_v22 main_cst_9
  let main_cst_10 : FVec F S_ .f32 := constant S_ .f32 0x40400000#32
  let main_v24 : FVec F S784 .f32 := broadcastInDim S784 ![] bcast_S_S784 main_cst_10
  let main_v25 : IVec S784 1 := cmpf .ole main_v18 main_v24
  let main_cst_11 : FVec F S_ .f32 := constant S_ .f32 0x40400000#32
  let main_v26 : FVec F S784 .f32 := broadcastInDim S784 ![] bcast_S_S784 main_cst_11
  let main_v27 : IVec S784 1 := cmpf .oge main_v23 main_v26
  let main_v28 : IVec S784 1 := andi main_v25 main_v27
  main_v28

def fn {F : FTy → Type} [FloatOps F] (main_arg0 : FVec F S784x1536 .f32) (main_arg1 : FVec F S65536x1536 .f32) : IVec S784 1 :=
  let main_v0 : FVec F S784x1536 .f32 := mulf main_arg0 main_arg0
  let main_cst : FVec F S_ .f32 := constant S_ .f32 0x00000000#32
  let main_v1 : FVec F S784 .f32 := (fun x v => Host.reduceAdd x v reducesTo_S784x1536_S784_d1 h_S_) main_v0 main_cst
  let main_v2 : FVec F S784x1 .f32 := broadcastInDim S784x1 ![0] bcast_S784_S784x1_0 main_v1
  let main_v3 : FVec F S65536x1536 .f32 := mulf main_arg1 main_arg1
  let main_cst_0 : FVec F S_ .f32 := constant S_ .f32 0x00000000#32
  let main_v4 : FVec F S65536 .f32 := (fun x v => Host.reduceAdd x v reducesTo_S65536x1536_S65536_d1 h_S_) main_v3 main_cst_0
  let main_v5 : FVec F S1x65536 .f32 := broadcastInDim S1x65536 ![1] bcast_S65536_S1x65536_1 main_v4
  let main_v6 : FVec F S784x65536 .f32 := broadcastInDim S784x65536 ![0, 1] bcast_S784x1_S784x65536_0_1 main_v2
  let main_v7 : FVec F S784x65536 .f32 := broadcastInDim S784x65536 ![0, 1] bcast_S1x65536_S784x65536_0_1 main_v5
  let main_v8 : FVec F S784x65536 .f32 := addf main_v6 main_v7
  let main_v9 : FVec F S1536x65536 .f32 := (transpose S1536x65536 [1, 0] · transposes_S65536x1536_S1536x65536_1_0) main_arg1
  let main_v10 : FVec F S784x65536 .f32 := (fun l r => Host.dotGeneral dot_S784x1536_S1536x65536_S784x65536_1_0_0_1_n_n none l r) main_arg0 main_v9
  let main_cst_1 : FVec F S_ .f32 := constant S_ .f32 0x40000000#32
  let main_v11 : FVec F S784x65536 .f32 := broadcastInDim S784x65536 ![] bcast_S_S784x65536 main_cst_1
  let main_v12 : FVec F S784x65536 .f32 := mulf main_v11 main_v10
  let main_v13 : FVec F S784x65536 .f32 := subf main_v8 main_v12
  let main_cst_2 : FVec F S_ .f32 := constant S_ .f32 0x2B8CBCCC#32
  let main_v14 : FVec F S784x65536 .f32 := broadcastInDim S784x65536 ![] bcast_S_S784x65536 main_cst_2
  let main_v15 : IVec S784x65536 1 := cmpf .ole main_v13 main_v14
  let main_cst_3 : FVec F S_ .f32 := constant S_ .f32 0x3F800000#32
  let main_cst_4 : FVec F S_ .f32 := constant S_ .f32 0x00000000#32
  let main_v16 : FVec F S784x65536 .f32 := fn_where (F := F) main_v15 main_cst_3 main_cst_4
  let main_v17 : FVec F S784x65536 .f32 := id main_v16
  fn_part1 (F := F) main_v13 main_v17
-- ==== Kernel.lean ====
abbrev S784x1536 : Shape := ⟨2, ![784, 1536]⟩
abbrev S65536x1536 : Shape := ⟨2, ![65536, 1536]⟩
abbrev S784x3 : Shape := ⟨2, ![784, 3]⟩
abbrev S2048x1536 : Shape := ⟨2, ![2048, 1536]⟩
abbrev S784x128 : Shape := ⟨2, ![784, 128]⟩
abbrev S784 : Shape := ⟨1, ![784]⟩
abbrev S784x1 : Shape := ⟨2, ![784, 1]⟩
abbrev S2048x128 : Shape := ⟨2, ![2048, 128]⟩
abbrev S2048 : Shape := ⟨1, ![2048]⟩
abbrev S784x2048 : Shape := ⟨2, ![784, 2048]⟩
abbrev S56x128 : Shape := ⟨2, ![56, 128]⟩
abbrev S128 : Shape := ⟨1, ![128]⟩
abbrev S1x128 : Shape := ⟨2, ![1, 128]⟩

abbrev nBuf : Space → Nat
  | .hbm => 4
  | .vmem => 13
  | .smem => 0
  | _ => 0

abbrev bufTy : (tb : Table) → Fin (tcTables nBuf tb) → BufTy
  | .hbm, ⟨0, _⟩ => ⟨S784x1536, .f32⟩
  | .hbm, ⟨1, _⟩ => ⟨S65536x1536, .f32⟩
  | .hbm, ⟨2, _⟩ => ⟨S784x3, .f32⟩
  | .hbm, ⟨3, _⟩ => ⟨S784x3, .i32⟩
  | .local _ .vmem, ⟨0, _⟩ => ⟨S784x1536, .f32⟩
  | .local _ .vmem, ⟨1, _⟩ => ⟨S2048x1536, .f32⟩
  | .local _ .vmem, ⟨2, _⟩ => ⟨S2048x1536, .f32⟩
  | .local _ .vmem, ⟨3, _⟩ => ⟨S784x3, .f32⟩
  | .local _ .vmem, ⟨4, _⟩ => ⟨S784x3, .i32⟩
  | .local _ .vmem, ⟨5, _⟩ => ⟨S784x128, .f32⟩
  | .local _ .vmem, ⟨6, _⟩ => ⟨S784x1536, .f32⟩
  | .local _ .vmem, ⟨7, _⟩ => ⟨S784x128, .f32⟩
  | .local _ .vmem, ⟨8, _⟩ => ⟨S784x128, .f32⟩
  | .local _ .vmem, ⟨9, _⟩ => ⟨S784x128, .f32⟩
  | .local _ .vmem, ⟨10, _⟩ => ⟨S784x128, .i32⟩
  | .local _ .vmem, ⟨11, _⟩ => ⟨S784x128, .i32⟩
  | .local _ .vmem, ⟨12, _⟩ => ⟨S784x128, .i32⟩
  | _, _ => ⟨S784x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v5311 : BitVec 1 := Scalar.cmpi .eq arg0 c31_i32
  let v5312 : BitVec 32 := Scalar.extui v5311
  let c0_i32_565 : BitVec 32 := 0#32
  let v5313 : BitVec 1 := Scalar.cmpi .ne v5312 c0_i32_565
  v5313

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S784x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S784x3 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S784x1536 : Shape := ⟨2, ![784, 1536]⟩
abbrev S65536x1536 : Shape := ⟨2, ![65536, 1536]⟩
abbrev S_ : Shape := ⟨0, ![]⟩
abbrev S784 : Shape := ⟨1, ![784]⟩
abbrev S784x1 : Shape := ⟨2, ![784, 1]⟩
abbrev S65536 : Shape := ⟨1, ![65536]⟩
abbrev S1x65536 : Shape := ⟨2, ![1, 65536]⟩
abbrev S784x65536 : Shape := ⟨2, ![784, 65536]⟩
abbrev S1536x65536 : Shape := ⟨2, ![1536, 65536]⟩
abbrev S784x3 : Shape := ⟨2, ![784, 3]⟩

abbrev nBuf : Space → Nat
  | .hbm => 27
  | .vmem => 0
  | .smem => 0
  | _ => 0

abbrev bufTy : (tb : Table) → Fin (tcTables nBuf tb) → BufTy
  | .hbm, ⟨0, _⟩ => ⟨S784x1536, .f32⟩
  | .hbm, ⟨1, _⟩ => ⟨S65536x1536, .f32⟩
  | .hbm, ⟨2, _⟩ => ⟨S784x1536, .f32⟩
  | .hbm, ⟨3, _⟩ => ⟨S_, .f32⟩
  | .hbm, ⟨4, _⟩ => ⟨S784, .f32⟩
  | .hbm, ⟨5, _⟩ => ⟨S784x1, .f32⟩
  | .hbm, ⟨6, _⟩ => ⟨S65536x1536, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S784x65536, .f32⟩
  | .hbm, ⟨11, _⟩ => ⟨S784x65536, .f32⟩
  | .hbm, ⟨12, _⟩ => ⟨S784x65536, .f32⟩
  | .hbm, ⟨13, _⟩ => ⟨S1536x65536, .f32⟩
  | .hbm, ⟨14, _⟩ => ⟨S784x65536, .f32⟩
  | .hbm, ⟨15, _⟩ => ⟨S_, .f32⟩
  | .hbm, ⟨16, _⟩ => ⟨S784x65536, .f32⟩
  | .hbm, ⟨17, _⟩ => ⟨S784x65536, .f32⟩
  | .hbm, ⟨18, _⟩ => ⟨S784x65536, .f32⟩
  | .hbm, ⟨19, _⟩ => ⟨S_, .f32⟩
  | .hbm, ⟨20, _⟩ => ⟨S784x65536, .f32⟩
  | .hbm, ⟨21, _⟩ => ⟨S784x65536, .f32⟩
  | .hbm, ⟨22, _⟩ => ⟨S784x65536, .f32⟩
  | .hbm, ⟨23, _⟩ => ⟨S784x65536, .f32⟩
  | .hbm, ⟨24, _⟩ => ⟨S784x3, .f32⟩
  | .hbm, ⟨25, _⟩ => ⟨S784x3, .i32⟩
  | .hbm, ⟨26, _⟩ => ⟨S784x3, .f32⟩
  | _, _ => ⟨S784x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Sweep.lean ====
module

public import proofs.«01_k».proof.Proof.Gen.KernelIdeal.Value

@[expose] public section

set_option maxRecDepth 16384

noncomputable section

namespace Cert.KernelIdeal.Sweep

open Idealize.ShloMosaic Idealize.ShloMosaic.TcCoe Idealize.ShloMosaic.Tactic
open Cert.KernelIdeal Cert.KernelIdeal.Gen

variable {F : FTy → Type} [FloatOps F]

/-- The six running vectors of one chunk of rows: three values and their three column numbers, lane by lane. -/
structure Six (F : FTy → Type) where
  a0 : Vec F S56x128 .f32
  a1 : Vec F S56x128 .f32
  a2 : Vec F S56x128 .f32
  b0 : Vec F S56x128 .i32
  b1 : Vec F S56x128 .i32
  b2 : Vec F S56x128 .i32

theorem slices_lanes (g : Fin 16) : S2048.Slices ![128 * g.val] S128 :=
  ⟨rfl, fun a => by
    have := g.isLt
    fin_cases a
    show 128 * g.val + 128 ≤ 2048
    omega⟩

theorem slices_tile (c : Fin 14) (g : Fin 16) : S784x2048.Slices ![56 * c.val, 128 * g.val] S56x128 :=
  ⟨rfl, fun a => by
    have := g.isLt
    have := c.isLt
    fin_cases a
    · show 56 * c.val + 56 ≤ 784
      omega
    · show 128 * g.val + 128 ≤ 2048
      omega⟩

theorem inb_rows (c : Fin 14) : ∀ a, (![56 * c.val, 0] : Fin 2 → Nat) a + S56x128.size a ≤ S784x128.size a := fun a => by
  have := c.isLt
  fin_cases a
  · show 56 * c.val + 56 ≤ 784
    omega
  · show 0 + 128 ≤ 128
    omega

/-- The rectangle of chunk `c`: its 56 rows, all lanes. -/
def rows (c : Fin 14) : Rect S784x128 := Rect.unit ![56 * c.val, 0] S56x128.size (inb_rows c)

/-- The squared distances of chunk `c` to the `g`-th group of 128 columns of a block. -/
def dist (msq : FVec F S2048 .f32) (ab : FVec F S784x2048 .f32) (qs : Vec F S56x128 .f32) (c : Fin 14) (g : Fin 16) :
    FVec F S56x128 .f32 :=
  subf (addf qs (broadcastTo S56x128 (shapeCast S1x128 (extractStridedSlice S128 ![128 * g.val] msq (slices_lanes g))
      shapeCasts_S128_S1x128) broadcasts_S1x128_S56x128))
    (extractStridedSlice S56x128 ![56 * c.val, 128 * g.val] ab (slices_tile c g))

/-- The column numbers of the `g`-th group of a block whose first column is `base`. -/
def cols (base : BitVec 32) (g : Fin 16) : IVec S56x128 32 :=
  addi (iota .tc S56x128 32 [1] iota_S56x128_d1_w32) (broadcast S56x128 (Scalar.addi base (BitVec.ofNat 32 (128 * g.val))))

/-- One new column per lane goes into the three kept ones. -/
def ins (v : FVec F S56x128 .f32) (ix : IVec S56x128 32) (s : Six F) : Six F where
  a0 := minimumf s.a0 v
  a1 := minimumf s.a1 (maximumf s.a0 v)
  a2 := minimumf s.a2 (maximumf s.a1 (maximumf s.a0 v))
  b0 := select (cmpf .olt v s.a0) ix s.b0
  b1 := select (cmpf .olt v s.a0) s.b0 (select (cmpf .olt v s.a1) ix s.b1)
  b2 := select (cmpf .olt v s.a1) s.b1 (select (cmpf .olt v s.a2) ix s.b2)

/-- Chunk `c` after the first groups of a block, in order. -/
def sweep (msq : FVec F S2048 .f32) (ab : FVec F S784x2048 .f32) (base : BitVec 32) (qs : Vec F S56x128 .f32) (c : Fin 14)
    (s : Six F) : List (Fin 16) → Six F
  | [] => s
  | g :: l => ins (dist msq ab qs c g) (cols base g) (sweep msq ab base qs c s l)

/-- The groups of a block, last first. -/
def groups : List (Fin 16) := [15, 14, 13, 12, 11, 10, 9, 8, 7, 6, 5, 4, 3, 2, 1, 0]

/-- The chunks of a block, last first. -/
def chunks : List (Fin 14) := [13, 12, 11, 10, 9, 8, 7, 6, 5, 4, 3, 2, 1, 0]

/-- Chunk `c` of a scratch array. -/
def part {e : EltTy} (X : Vec F S784x128 e) (c : Fin 14) : Vec F S56x128 e := View.ld X (rows c)

/-- The block's squared norms and its products with the doubled queries. -/
def msqOf (x1 : Vec F S2048x1536 .f32) : FVec F S2048 .f32 := k0_pay28 x1
def abOf (x1 : Vec F S2048x1536 .f32) (q2 : Vec F S784x1536 .f32) : FVec F S784x2048 .f32 := k0_pay29 x1 q2

def baseOf (i : grid0.Coords) : BitVec 32 := Scalar.muli (BitVec.ofNat 32 (i 0).val) 2048#32

end Cert.KernelIdeal.Sweep

end
-- ==== Proof.Stores.lean ====
module

public import proofs.«01_k».proof.Proof.Sweep
public import Idealize.ShloMosaic.Lib.Pipeline.ValueKit.Tiles
public import Idealize.ShloMosaic.Lib.Pointwise

@[expose] public section

set_option maxRecDepth 16384

noncomputable section

namespace Cert.KernelIdeal.Sweep

open Idealize.ShloMosaic Idealize.ShloMosaic.TcCoe Idealize.ShloMosaic.Tactic
open Cert.KernelIdeal Cert.KernelIdeal.Gen

variable {F : FTy → Type} [FloatOps F]

/-! ## Arrays of 784 rows by chunks of 56 rows -/

theorem mem_chunks (k : Fin 14) : k ∈ chunks := by decide +revert

theorem chunks_nodup : chunks.Nodup := by decide

theorem rows_val0 (k : Fin 14) (x : S56x128.Idx) : ((rows k).emb x 0).val = 56 * k.val + (x 0).val :=
  Rect.idx_unit_val (s := S784x128) ![56 * k.val, 0] S56x128.size (inb_rows k) x (0 : Fin 2)

theorem rows_val1 (k : Fin 14) (x : S56x128.Idx) : ((rows k).emb x 1).val = (x 1).val :=
  (Rect.idx_unit_val (s := S784x128) ![56 * k.val, 0] S56x128.size (inb_rows k) x (1 : Fin 2)).trans (Nat.zero_add _)

/-- Every place of a scratch array lies in one chunk. -/
theorem exists_rows (y : S784x128.Idx) : ∃ (k : Fin 14) (x : S56x128.Idx), (rows k).emb x = y := by
  have h0 : (y 0).val < 784 := (y 0).isLt
  refine ⟨⟨(y 0).val / 56, by omega⟩, ix2 ⟨(y 0).val % 56, by omega⟩ (y 1), ?_⟩
  funext a
  apply Fin.ext
  fin_cases a
  · refine (rows_val0 _ _).trans ?_
    show 56 * ((y 0).val / 56) + (y 0).val % 56 = (y 0).val
    omega
  · exact rows_val1 _ _

/-- Two chunks share no place. -/
theorem not_mem_rows {k k' : Fin 14} (h : k' ≠ k) (x : S56x128.Idx) : (rows k).emb x ∉ (rows k').set := by
  intro hm
  obtain ⟨j, hj, he⟩ := (LoadRect.mem_set _).mp hm (0 : Fin 2)
  have hj1 : j < 56 := hj
  have hx : (x 0).val < 56 := (x 0).isLt
  have he1 : ((rows k).emb x 0).val = 56 * k.val + (x 0).val := rows_val0 k x
  have he' : ((rows k).emb x 0).val = 56 * k'.val + 1 * j := he
  have := Fin.val_ne_of_ne h
  omega

/-- Two arrays that agree chunk by chunk are the same. -/
theorem ext_part {e : EltTy} {X Y : Vec F S784x128 e} (h : ∀ k, part X k = part Y k) : X = Y := by
  funext y
  obtain ⟨k, x, rfl⟩ := exists_rows y
  exact congrFun (h k) x

/-- The array with the given chunks. -/
def glue {e : EltTy} (f : Fin 14 → Vec F S56x128 e) : Vec F S784x128 e := fun y =>
  f ⟨(y 0).val / 56, by have h0 : (y 0).val < 784 := (y 0).isLt; omega⟩
    (ix2 ⟨(y 0).val % 56, by omega⟩ (y 1))

theorem part_glue {e : EltTy} (f : Fin 14 → Vec F S56x128 e) (k : Fin 14) : part (glue f) k = f k := by
  funext x
  have hx : (x 0).val < 56 := (x 0).isLt
  have e0 : ((rows k).emb x 0).val = 56 * k.val + (x 0).val := rows_val0 k x
  have e1 : ((rows k).emb x 1).val = (x 1).val := rows_val1 k x
  show glue f ((rows k).emb x) = f k x
  unfold glue
  congr 1
  · apply Fin.ext
    show ((rows k).emb x 0).val / 56 = k.val
    omega
  · funext a
    fin_cases a
    · apply Fin.ext
      show ((rows k).emb x 0).val % 56 = (x 0).val
      omega
    · apply Fin.ext
      show ((rows k).emb x 1).val = (x 1).val
      omega

/-- Stores of the chunks in some order over earlier stores: a chunk stored reads as what was stored. -/
theorem canon_stores {e : EltTy} (f : Fin 14 → Vec F S56x128 e) (L : List (View.Piece (Elt F) S784x128 e)) (k : Fin 14)
    (x : S56x128.Idx) : ∀ l : List (Fin 14), l.Nodup →
      View.canon (l.map (fun k => (⟨rows k, f k⟩ : View.Piece (Elt F) S784x128 e)) ++ L) ((rows k).emb x)
        = if k ∈ l then f k x else View.canon L ((rows k).emb x)
  | [], _ => by simp
  | k' :: l, h => by
    rcases eq_or_ne k' k with rfl | hk
    · simp only [List.map_cons, List.cons_append, List.mem_cons, true_or, if_true]
      exact View.canon_cons_emb (rows k') (f k') _ x
    · have := canon_stores f L k x l (List.nodup_cons.mp h).2
      simp only [List.map_cons, List.cons_append, List.mem_cons, hk.symm, false_or]
      have h2 := View.canon_cons_of_not_mem (⟨rows k', f k'⟩ : View.Piece (Elt F) S784x128 e)
        (l.map (fun k => (⟨rows k, f k⟩ : View.Piece (Elt F) S784x128 e)) ++ L) (y := (rows k).emb x) (not_mem_rows hk x)
      rw [h2]
      exact this

/-- Stores of all chunks leave the array glued from them. -/
theorem canon_glue {e : EltTy} (f : Fin 14 → Vec F S56x128 e) (L : List (View.Piece (Elt F) S784x128 e)) :
    View.canon (chunks.map (fun k => (⟨rows k, f k⟩ : View.Piece (Elt F) S784x128 e)) ++ L) = glue f := by
  refine ext_part (F := F) fun k => ?_
  rw [part_glue]
  funext x
  have h := canon_stores f L k x chunks chunks_nodup
  rw [if_pos (mem_chunks k)] at h
  exact h

/-! ## One point of the grid as a map of the scratch arrays -/

/-- The scratch arrays: the query norms, the doubled queries, the three kept values and their column numbers. -/
structure Scr (F : FTy → Type) where
  qs : Vec F S784x128 .f32
  q2 : Vec F S784x1536 .f32
  a0 : Vec F S784x128 .f32
  a1 : Vec F S784x128 .f32
  a2 : Vec F S784x128 .f32
  b0 : Vec F S784x128 .i32
  b1 : Vec F S784x128 .i32
  b2 : Vec F S784x128 .i32

/-- Chunk `k` of the six kept arrays. -/
def Scr.six (S : Scr F) (k : Fin 14) : Six F :=
  ⟨part S.a0 k, part S.a1 k, part S.a2 k, part S.b0 k, part S.b1 k, part S.b2 k⟩

/-- Chunk `k` after a block. -/
def Scr.after (S : Scr F) (x1 : Vec F S2048x1536 .f32) (i : grid0.Coords) (k : Fin 14) : Six F :=
  sweep (msqOf x1) (abOf x1 S.q2) (baseOf i) (part S.qs k) k (S.six k) groups

/-- The scratch arrays after a block. -/
def Scr.step (S : Scr F) (x1 : Vec F S2048x1536 .f32) (i : grid0.Coords) : Scr F where
  qs := S.qs
  q2 := S.q2
  a0 := glue fun k => (S.after x1 i k).a0
  a1 := glue fun k => (S.after x1 i k).a1
  a2 := glue fun k => (S.after x1 i k).a2
  b0 := glue fun k => (S.after x1 i k).b0
  b1 := glue fun k => (S.after x1 i k).b1
  b2 := glue fun k => (S.after x1 i k).b2

/-- The scratch arrays before the first block. -/
def Scr.init (x0 : Vec F S784x1536 .f32) : Scr F where
  qs := k0_pay1 x0
  q2 := k0_pay2 x0
  a0 := broadcast S784x128 (Scalar.ofBits .f32 0x7F800000#32)
  a1 := broadcast S784x128 (Scalar.ofBits .f32 0x7F800000#32)
  a2 := broadcast S784x128 (Scalar.ofBits .f32 0x7F800000#32)
  b0 := broadcast S784x128 0#32
  b1 := broadcast S784x128 0#32
  b2 := broadcast S784x128 0#32

/-! ## The last point: distances, and three rounds over the lanes -/

/-- Six arrays over the lanes: three distances and their column numbers. -/
structure Lanes (F : FTy → Type) where
  a0 : FVec F S784x128 .f32
  a1 : FVec F S784x128 .f32
  a2 : FVec F S784x128 .f32
  b0 : IVec S784x128 32
  b1 : IVec S784x128 32
  b2 : IVec S784x128 32

def root (s : FVec F S784x128 .f32) : FVec F S784x128 .f32 :=
  sqrt (maximumf s (broadcast S784x128 (Scalar.ofBits .f32 0x2B8CBCCC#32)))

/-- Of equal distances the smaller column number comes first. -/
def Lanes.swap01 (L : Lanes F) : Lanes F :=
  { L with
    b0 := select (andi (cmpf .oeq L.a0 L.a1) (cmpi .slt L.b1 L.b0)) L.b1 L.b0
    b1 := select (andi (cmpf .oeq L.a0 L.a1) (cmpi .slt L.b1 L.b0)) L.b0 L.b1 }

def Lanes.swap12 (L : Lanes F) : Lanes F :=
  { L with
    b1 := select (andi (cmpf .oeq L.a1 L.a2) (cmpi .slt L.b2 L.b1)) L.b2 L.b1
    b2 := select (andi (cmpf .oeq L.a1 L.a2) (cmpi .slt L.b2 L.b1)) L.b1 L.b2 }

/-- The least distance of each row. -/
def Lanes.best (L : Lanes F) : FVec F S784 .f32 :=
  multiReduction .minimumf [1] S784 L.a0 0x7F800000#32 reduces_S784x128_S784 (.inl rfl) rfl

def Lanes.hit (L : Lanes F) : IVec S784x128 1 :=
  cmpf .oeq L.a0 (broadcastTo S784x128 (shapeCast S784x1 L.best shapeCasts_S784_S784x1) broadcasts_S784x1_S784x128)

/-- The least column number at that distance. -/
def Lanes.who (L : Lanes F) : IVec S784 32 :=
  multiReductionI .minsi [1] S784 (select L.hit L.b0 (broadcast S784x128 65536#32)) 2147483647#32 reduces_S784x128_S784 rfl

def Lanes.sel (L : Lanes F) : IVec S784x128 1 :=
  andi L.hit (cmpi .eq L.b0 (broadcastTo S784x128 (shapeCast S784x1 L.who shapeCasts_S784_S784x1) broadcasts_S784x1_S784x128))

/-- The selected lane moves up by one. -/
def Lanes.drop (L : Lanes F) : Lanes F where
  a0 := select L.sel L.a1 L.a0
  a1 := select L.sel L.a2 L.a1
  a2 := select L.sel (broadcast S784x128 (Scalar.ofBits .f32 0x7F800000#32)) L.a2
  b0 := select L.sel L.b1 L.b0
  b1 := select L.sel L.b2 L.b1
  b2 := L.b2

def Lanes.of (a0 a1 a2 : Vec F S784x128 .f32) (b0 b1 b2 : Vec F S784x128 .i32) : Lanes F :=
  Lanes.swap01 (Lanes.swap12 (Lanes.swap01 ⟨root a0, root a1, root a2, b0, b1, b2⟩))

/-- The three distances of each row. -/
def Lanes.vals (L : Lanes F) : FVec F S784x3 .f32 :=
  concatenate S784x3 1 [⟨S784x1, shapeCast S784x1 L.best shapeCasts_S784_S784x1⟩,
    ⟨S784x1, shapeCast S784x1 L.drop.best shapeCasts_S784_S784x1⟩,
    ⟨S784x1, shapeCast S784x1 L.drop.drop.best shapeCasts_S784_S784x1⟩] concatenates_S784x1_S784x1_S784x1_S784x3_d1

/-- The three column numbers of each row. -/
def Lanes.idxs (L : Lanes F) : IVec S784x3 32 :=
  concatenate S784x3 1 [⟨S784x1, shapeCast S784x1 L.who shapeCasts_S784_S784x1⟩,
    ⟨S784x1, shapeCast S784x1 L.drop.who shapeCasts_S784_S784x1⟩,
    ⟨S784x1, shapeCast S784x1 L.drop.drop.who shapeCasts_S784_S784x1⟩] concatenates_S784x1_S784x1_S784x1_S784x3_d1

def Scr.lanes (S : Scr F) : Lanes F := Lanes.of S.a0 S.a1 S.a2 S.b0 S.b1 S.b2

/-! ## What the kernel stores at a point -/

abbrev wholeM : Rect S2048x1536 := Rect.unit ![0, 0] S2048x1536.size inb_S2048x1536_S2048x1536_0_0
abbrev wholeQ : Rect S784x1536 := Rect.unit ![0, 0] S784x1536.size inb_S784x1536_S784x1536_0_0
abbrev wholeS : Rect S784x128 := Rect.unit ![0, 0] S784x128.size inb_S784x128_S784x128_0_0
abbrev wholeO : Rect S784x3 := Rect.unit ![0, 0] S784x3.size inb_S784x3_S784x3_0_0

/-- The stores of one array of values, one per chunk. -/
def storesF (f : Fin 14 → Vec F S56x128 .f32) : List (View.Piece (Elt F) S784x128 .f32) :=
  chunks.map fun k => ⟨rows k, shapeCast S56x128 (f k) shapeCasts_S56x128_S56x128⟩

/-- The stores of one array of column numbers, one per chunk. -/
def storesI (f : Fin 14 → Vec F S56x128 .i32) : List (View.Piece (Elt F) S784x128 .i32) :=
  chunks.map fun k => ⟨rows k, shapeCast S56x128 (f k) shapeCasts_S56x128_S56x128⟩

theorem canon_storesF (f : Fin 14 → Vec F S56x128 .f32) : View.canon (storesF f) = glue f := by
  have := canon_glue f []
  simpa only [List.append_nil, storesF, shapeCast_self] using this

theorem canon_storesI (f : Fin 14 → Vec F S56x128 .i32) : View.canon (storesI f) = glue f := by
  have := canon_glue f []
  simpa only [List.append_nil, storesI, shapeCast_self] using this

section cases

variable (c : Dev nD) (i : grid0.Coords) (arg1 : Memref sig .tc .vmem S784x1536 .f32) (harg1 : arg1.IsWhole) (arg2 : Memref sig .tc .vmem S2048x1536 .f32) (harg2 : arg2.IsWhole)
  (arg3 : Memref sig .tc .vmem S784x3 .f32) (harg3 : arg3.IsWhole) (arg4 : Memref sig .tc .vmem S784x3 .i32) (harg4 : arg4.IsWhole)
  (arg5 : Memref sig .tc .vmem S784x128 .f32) (harg5 : arg5.IsWhole) (arg6 : Memref sig .tc .vmem S784x1536 .f32) (harg6 : arg6.IsWhole)
  (arg7 : Memref sig .tc .vmem S784x128 .f32) (harg7 : arg7.IsWhole) (arg8 : Memref sig .tc .vmem S784x128 .f32) (harg8 : arg8.IsWhole)
  (arg9 : Memref sig .tc .vmem S784x128 .f32) (harg9 : arg9.IsWhole) (arg10 : Memref sig .tc .vmem S784x128 .i32) (harg10 : arg10.IsWhole)
  (arg11 : Memref sig .tc .vmem S784x128 .i32) (harg11 : arg11.IsWhole) (arg12 : Memref sig .tc .vmem S784x128 .i32) (harg12 : arg12.IsWhole)
  (x0 : Vec F S784x1536 .f32) (x1 : Vec F S2048x1536 .f32)
  (xs0 : Vec F S784x128 .f32) (xs1 : Vec F S784x1536 .f32) (xs2 xs3 xs4 : Vec F S784x128 .f32) (xs5 xs6 xs7 : Vec F S784x128 .i32)

/-- Chunk `k` after a block, as the kernel loads it. -/
def afterLoads (k : Fin 14) : Six F :=
  sweep (msqOf (View.readAt (Elt F) arg2.view wholeM.toLoadRect (harg2.unread x1)))
    (abOf (View.readAt (Elt F) arg2.view wholeM.toLoadRect (harg2.unread x1)) (View.readAt (Elt F) arg6.view wholeQ.toLoadRect (harg6.unread xs1)))
    (baseOf i) (View.readAt (Elt F) arg5.view (rows k).toLoadRect (harg5.unread xs0)) k
    ⟨View.readAt (Elt F) arg7.view (rows k).toLoadRect (harg7.unread xs2),
      View.readAt (Elt F) arg8.view (rows k).toLoadRect (harg8.unread xs3),
      View.readAt (Elt F) arg9.view (rows k).toLoadRect (harg9.unread xs4),
      View.readAt (Elt F) arg10.view (rows k).toLoadRect (harg10.unread xs5),
      View.readAt (Elt F) arg11.view (rows k).toLoadRect (harg11.unread xs6),
      View.readAt (Elt F) arg12.view (rows k).toLoadRect (harg12.unread xs7)⟩ groups

theorem readAt_unread {s : Shape} {e : EltTy} (m : Memref sig .tc .vmem s e) (h : m.IsWhole) (r : Rect s) (X : Vec F s e) :
    View.readAt (Elt F) m.view r.toLoadRect (h.unread X) = View.ld X r := by
  funext j
  exact congrFun (h.read_unread X) (r.idx j)

theorem afterLoads_eq (k : Fin 14) :
    afterLoads i arg2 harg2 arg5 harg5 arg6 harg6 arg7 harg7 arg8 harg8 arg9 harg9 arg10 harg10 arg11 harg11 arg12 harg12
      x1 xs0 xs1 xs2 xs3 xs4 xs5 xs6 xs7 k = Scr.after ⟨xs0, xs1, xs2, xs3, xs4, xs5, xs6, xs7⟩ x1 i k := by
  unfold afterLoads Scr.after Scr.six part
  simp only [readAt_unread]
  rw [View.ld_unit_lit (S := S2048x1536) inb_S2048x1536_S2048x1536_0_0 x1 (by intro a; fin_cases a <;> rfl),
    View.ld_unit_lit (S := S784x1536) inb_S784x1536_S784x1536_0_0 xs1 (by intro a; fin_cases a <;> rfl)]

end cases

end Cert.KernelIdeal.Sweep

end
-- ==== Proof.Leaves.lean ====
module

public import proofs.«01_k».proof.Proof.Stores

@[expose] public section

set_option maxRecDepth 16384
set_option maxHeartbeats 4000000

noncomputable section

namespace Cert.KernelIdeal.Sweep

open Idealize.ShloMosaic Idealize.ShloMosaic.TcCoe Idealize.ShloMosaic.Tactic
open Cert.KernelIdeal Cert.KernelIdeal.Gen

variable {F : FTy → Type} [FloatOps F]

variable (c : Dev nD) (i : grid0.Coords) (arg1 : Memref sig .tc .vmem S784x1536 .f32) (harg1 : arg1.IsWhole) (arg2 : Memref sig .tc .vmem S2048x1536 .f32) (harg2 : arg2.IsWhole)
  (arg3 : Memref sig .tc .vmem S784x3 .f32) (harg3 : arg3.IsWhole) (arg4 : Memref sig .tc .vmem S784x3 .i32) (harg4 : arg4.IsWhole)
  (arg5 : Memref sig .tc .vmem S784x128 .f32) (harg5 : arg5.IsWhole) (arg6 : Memref sig .tc .vmem S784x1536 .f32) (harg6 : arg6.IsWhole)
  (arg7 : Memref sig .tc .vmem S784x128 .f32) (harg7 : arg7.IsWhole) (arg8 : Memref sig .tc .vmem S784x128 .f32) (harg8 : arg8.IsWhole)
  (arg9 : Memref sig .tc .vmem S784x128 .f32) (harg9 : arg9.IsWhole) (arg10 : Memref sig .tc .vmem S784x128 .i32) (harg10 : arg10.IsWhole)
  (arg11 : Memref sig .tc .vmem S784x128 .i32) (harg11 : arg11.IsWhole) (arg12 : Memref sig .tc .vmem S784x128 .i32) (harg12 : arg12.IsWhole)
  (x0 : Vec F S784x1536 .f32) (x1 : Vec F S2048x1536 .f32)
  (xs0 : Vec F S784x128 .f32) (xs1 : Vec F S784x1536 .f32) (xs2 xs3 xs4 : Vec F S784x128 .f32) (xs5 xs6 xs7 : Vec F S784x128 .i32)

/-- What is read of stores over an empty array is what the stores say. -/
theorem read_stores {s : Shape} {e : EltTy} (v : View sig .tc .vmem s e) (L : List (View.Piece (Elt F) s e)) :
    v.read (Elt F) (v.writes (Elt F) v.junk L) = View.canon L :=
  funext fun y => View.read_writes_junk_apply_eq_canon v y L

theorem glue_ofF (v : View sig .tc .vmem S784x128 .f32) (L : List (View.Piece (Elt F) S784x128 .f32)) {f g : Fin 14 → Vec F S56x128 .f32}
    (h : L = storesF f) (hg : ∀ k, f k = g k) : v.read (Elt F) (v.writes (Elt F) v.junk L) = glue g := by
  rw [h, read_stores, canon_storesF, show f = g from funext hg]

theorem glue_ofI (v : View sig .tc .vmem S784x128 .i32) (L : List (View.Piece (Elt F) S784x128 .i32)) {f g : Fin 14 → Vec F S56x128 .i32}
    (h : L = storesI f) (hg : ∀ k, f k = g k) : v.read (Elt F) (v.writes (Elt F) v.junk L) = glue g := by
  rw [h, read_stores, canon_storesI, show f = g from funext hg]

theorem Scr.eq_of {S T : Scr F} (h0 : S.qs = T.qs) (h1 : S.q2 = T.q2) (h2 : S.a0 = T.a0) (h3 : S.a1 = T.a1) (h4 : S.a2 = T.a2)
    (h5 : S.b0 = T.b0) (h6 : S.b1 = T.b1) (h7 : S.b2 = T.b2) : S = T := by
  cases S; cases T; cases h0; cases h1; cases h2; cases h3; cases h4; cases h5; cases h6; cases h7; rfl

/-- A whole array read after stores that make it up. -/
theorem readCov_whole {e : EltTy} (v : View sig .tc .vmem S784x128 e) (L : List (View.Piece (Elt F) S784x128 e)) :
    v.readCov L wholeS.toLoadRect = View.canon L := by
  rw [View.readCov_eq_canon']
  exact View.ld_unit_lit (S := S784x128) inb_S784x128_S784x128_0_0 (View.canon L) (by intro a; fin_cases a <;> rfl)

theorem canon_whole {e : EltTy} (X : Vec F S784x3 e) :
    View.canon [(⟨wholeO, X⟩ : View.Piece (Elt F) S784x3 e)] = X := by
  exact View.canon_cons_unit_lit (S := S784x3) inb_S784x3_S784x3_0_0 X [] (by intro a; fin_cases a <;> rfl)

theorem whole_of {e : EltTy} (v : View sig .tc .vmem S784x3 e) (L : List (View.Piece (Elt F) S784x3 e)) {X Y : Vec F S784x3 e}
    (h : L = [⟨wholeO, X⟩]) (hg : X = Y) : v.read (Elt F) (v.writes (Elt F) v.junk L) = Y := by
  rw [h, read_stores, canon_whole, hg]

/-- A point in the middle: the stores of the six kept arrays. -/
theorem lists_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a0) ∧
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a1) ∧
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a2) ∧
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b0) ∧
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b1) ∧
    (kernelRun0_B c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b2) := by
  refine ⟨?_, ?_, ?_, ?_, ?_, ?_⟩ <;> sl_kernel_rfl

/-- A point in the middle takes the scratch arrays one step further. -/
theorem leaves_B (hc0 : ¬cond0_0 i) (hc1 : ¬cond0_1 i) :
    (⟨sout0_B_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_4 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_6 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_B_7 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7⟩ : Scr F)
    = Scr.step ⟨xs0, xs1, xs2, xs3, xs4, xs5, xs6, xs7⟩ x1 i := by
  obtain ⟨h0, h1, h2, h3, h4, h5⟩ := lists_B c i arg1 harg1 arg2 harg2 arg3 harg3 arg4 harg4 arg5 harg5 arg6 harg6 arg7 harg7 arg8 harg8 arg9 harg9 arg10 harg10 arg11 harg11 arg12 harg12
    x0 x1 xs0 xs1 xs2 xs3 xs4 xs5 xs6 xs7 hc0 hc1
  refine Scr.eq_of (by unfold sout0_B_0; rfl) (by unfold sout0_B_1; rfl) ?_ ?_ ?_ ?_ ?_ ?_
  · exact glue_ofF VS0_2 _ h0 fun k => congrArg Six.a0 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofF VS0_3 _ h1 fun k => congrArg Six.a1 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofF VS0_4 _ h2 fun k => congrArg Six.a2 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_5 _ h3 fun k => congrArg Six.b0 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_6 _ h4 fun k => congrArg Six.b1 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_7 _ h5 fun k => congrArg Six.b2 (afterLoads_eq i arg2 harg2 arg5 harg5 arg6 harg6 arg7 harg7 arg8 harg8 arg9 harg9 arg10 harg10 arg11 harg11 arg12 harg12 x1 xs0 xs1 xs2 xs3 xs4 xs5 xs6 xs7 k)

/-- The last point: the stores of the six kept arrays. -/
theorem lists_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a0) ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a1) ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.1
      = storesF (fun k => (afterLoads i arg2 harg2 arg5 harg5 arg6 harg6 arg7 harg7 arg8 harg8 arg9 harg9 arg10 harg10 arg11 harg11 arg12 harg12
      x1 xs0 xs1 xs2 xs3 xs4 xs5 xs6 xs7 k).a2) ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b0) ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b1) ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.2.2.2.2.2.2.2.2.1
      = storesI (fun k => (afterLoads i arg2 harg2 arg5 harg5 arg6 harg6 arg7 harg7 arg8 harg8 arg9 harg9 arg10 harg10 arg11 harg11 arg12 harg12
      x1 xs0 xs1 xs2 xs3 xs4 xs5 xs6 xs7 k).b2) := by
  refine ⟨?_, ?_, ?_, ?_, ?_, ?_⟩ <;> sl_kernel_rfl

/-- The last point takes the scratch arrays one step further. -/
theorem leaves_C (hc0 : ¬cond0_0 i) (hc1 : cond0_1 i) :
    (⟨sout0_C_0 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_1 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_4 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_5 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_6 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7,
      sout0_C_7 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7⟩ : Scr F)
    = Scr.step ⟨xs0, xs1, xs2, xs3, xs4, xs5, xs6, xs7⟩ x1 i := by
  obtain ⟨h0, h1, h2, h3, h4, h5⟩ := lists_C c i arg1 harg1 arg2 harg2 arg3 harg3 arg4 harg4 arg5 harg5 arg6 harg6 arg7 harg7 arg8 harg8 arg9 harg9 arg10 harg10 arg11 harg11 arg12 harg12
    x0 x1 xs0 xs1 xs2 xs3 xs4 xs5 xs6 xs7 hc0 hc1
  refine Scr.eq_of (by unfold sout0_C_0; rfl) (by unfold sout0_C_1; rfl) ?_ ?_ ?_ ?_ ?_ ?_
  · exact glue_ofF VS0_2 _ h0 fun k => congrArg Six.a0 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofF VS0_3 _ h1 fun k => congrArg Six.a1 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofF VS0_4 _ h2 fun k => congrArg Six.a2 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_5 _ h3 fun k => congrArg Six.b0 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_6 _ h4 fun k => congrArg Six.b1 (afterLoads_eq i arg2 harg2 arg5 harg5 arg6 harg6 arg7 harg7 arg8 harg8 arg9 harg9 arg10 harg10 arg11 harg11 arg12 harg12 x1 xs0 xs1 xs2 xs3 xs4 xs5 xs6 xs7 k)
  · exact glue_ofI VS0_7 _ h5 fun k => congrArg Six.b2 (afterLoads_eq i arg2 harg2 arg5 harg5 arg6 harg6 arg7 harg7 arg8 harg8 arg9 harg9 arg10 harg10 arg11 harg11 arg12 harg12 x1 xs0 xs1 xs2 xs3 xs4 xs5 xs6 xs7 k)

/-- The last point's stores of the two results. -/
theorem lists_out (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).1
      = [⟨wholeO, (Lanes.of (arg7.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a0) wholeS.toLoadRect)
        (arg8.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a1) wholeS.toLoadRect)
        (arg9.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a2) wholeS.toLoadRect)
        (arg10.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b0) wholeS.toLoadRect)
        (arg11.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b1) wholeS.toLoadRect)
        (arg12.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b2) wholeS.toLoadRect)).vals⟩] ∧
    (kernelRun0_C c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7).2.1
      = [⟨wholeO, (Lanes.of (arg7.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a0) wholeS.toLoadRect)
        (arg8.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a1) wholeS.toLoadRect)
        (arg9.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a2) wholeS.toLoadRect)
        (arg10.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b0) wholeS.toLoadRect)
        (arg11.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b1) wholeS.toLoadRect)
        (arg12.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b2) wholeS.toLoadRect)).idxs⟩] := by
  refine ⟨?_, ?_⟩ <;> sl_kernel_rfl

/-- The last point's results are read off the scratch arrays it leaves. -/
theorem leaves_out (hc0 : ¬cond0_0 i) (hc1 : cond0_1 i) :
    out0_C_2 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7
      = (Scr.step ⟨xs0, xs1, xs2, xs3, xs4, xs5, xs6, xs7⟩ x1 i).lanes.vals ∧
    out0_C_3 c i arg1 harg1 arg2 harg2 arg3 harg3 arg4 harg4 arg5 harg5 arg6 harg6 arg7 harg7 arg8 harg8 arg9 harg9 arg10 harg10 arg11 harg11 arg12 harg12 hc0 hc1 x0 x1 xs0 xs1 xs2 xs3 xs4 xs5 xs6 xs7
      = (Scr.step ⟨xs0, xs1, xs2, xs3, xs4, xs5, xs6, xs7⟩ x1 i).lanes.idxs := by
  obtain ⟨h0, h1⟩ := lists_out c i arg1 harg1 arg2 harg2 arg3 harg3 arg4 harg4 arg5 harg5 arg6 harg6 arg7 harg7 arg8 harg8 arg9 harg9 arg10 harg10 arg11 harg11 arg12 harg12
    x0 x1 xs0 xs1 xs2 xs3 xs4 xs5 xs6 xs7 hc0 hc1
  have hl : Lanes.of (arg7.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a0) wholeS.toLoadRect)
        (arg8.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a1) wholeS.toLoadRect)
        (arg9.view.readCov (storesF fun k => (afterLoads i arg2 harg2 arg5 harg5 arg6 harg6 arg7 harg7 arg8 harg8 arg9 harg9 arg10 harg10 arg11 harg11 arg12 harg12
      x1 xs0 xs1 xs2 xs3 xs4 xs5 xs6 xs7 k).a2) wholeS.toLoadRect)
        (arg10.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b0) wholeS.toLoadRect)
        (arg11.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b1) wholeS.toLoadRect)
        (arg12.view.readCov (storesI fun k => (afterLoads i arg2 harg2 arg5 harg5 arg6 harg6 arg7 harg7 arg8 harg8 arg9 harg9 arg10 harg10 arg11 harg11 arg12 harg12
      x1 xs0 xs1 xs2 xs3 xs4 xs5 xs6 xs7 k).b2) wholeS.toLoadRect) = (Scr.step ⟨xs0, xs1, xs2, xs3, xs4, xs5, xs6, xs7⟩ x1 i).lanes := by
    unfold Scr.lanes Scr.step
    simp only [readCov_whole, canon_storesF, canon_storesI, afterLoads_eq]
  exact ⟨whole_of VO0_2 _ h0 (congrArg Lanes.vals hl), whole_of VO0_3 _ h1 (congrArg Lanes.idxs hl)⟩

end Cert.KernelIdeal.Sweep

end
-- ==== Proof.Init.lean ====
module

public import proofs.«01_k».proof.Proof.Leaves

@[expose] public section

set_option maxRecDepth 16384
set_option maxHeartbeats 400000

noncomputable section

namespace Cert.KernelIdeal.Sweep

open Idealize.ShloMosaic Idealize.ShloMosaic.TcCoe Idealize.ShloMosaic.Tactic
open Cert.KernelIdeal Cert.KernelIdeal.Gen

variable {F : FTy → Type} [FloatOps F]

/-- The stores of the six kept arrays. -/
structure Pieces (F : FTy → Type) where
  p0 : List (View.Piece (Elt F) S784x128 .f32)
  p1 : List (View.Piece (Elt F) S784x128 .f32)
  p2 : List (View.Piece (Elt F) S784x128 .f32)
  q0 : List (View.Piece (Elt F) S784x128 .i32)
  q1 : List (View.Piece (Elt F) S784x128 .i32)
  q2 : List (View.Piece (Elt F) S784x128 .i32)

/-- One chunk's stores over the earlier ones. -/
def Pieces.push (P : Pieces F) (k : Fin 14) (R : Six F) : Pieces F where
  p0 := ⟨rows k, shapeCast S56x128 R.a0 shapeCasts_S56x128_S56x128⟩ :: P.p0
  p1 := ⟨rows k, shapeCast S56x128 R.a1 shapeCasts_S56x128_S56x128⟩ :: P.p1
  p2 := ⟨rows k, shapeCast S56x128 R.a2 shapeCasts_S56x128_S56x128⟩ :: P.p2
  q0 := ⟨rows k, shapeCast S56x128 R.b0 shapeCasts_S56x128_S56x128⟩ :: P.q0
  q1 := ⟨rows k, shapeCast S56x128 R.b1 shapeCasts_S56x128_S56x128⟩ :: P.q1
  q2 := ⟨rows k, shapeCast S56x128 R.b2 shapeCasts_S56x128_S56x128⟩ :: P.q2

/-- Chunk `k` of the arrays the stores leave. -/
def Pieces.six (P : Pieces F) (k : Fin 14) : Six F :=
  ⟨part (View.canon P.p0) k, part (View.canon P.p1) k, part (View.canon P.p2) k,
    part (View.canon P.q0) k, part (View.canon P.q1) k, part (View.canon P.q2) k⟩

/-- The stores of the initial values. -/
def Pieces.init : Pieces F where
  p0 := [⟨wholeS, shapeCast S784x128 (broadcast S784x128 (Scalar.ofBits .f32 0x7F800000#32)) shapeCasts_S784x128_S784x128⟩]
  p1 := [⟨wholeS, shapeCast S784x128 (broadcast S784x128 (Scalar.ofBits .f32 0x7F800000#32)) shapeCasts_S784x128_S784x128⟩]
  p2 := [⟨wholeS, shapeCast S784x128 (broadcast S784x128 (Scalar.ofBits .f32 0x7F800000#32)) shapeCasts_S784x128_S784x128⟩]
  q0 := [⟨wholeS, shapeCast S784x128 (broadcast S784x128 0#32) shapeCasts_S784x128_S784x128⟩]
  q1 := [⟨wholeS, shapeCast S784x128 (broadcast S784x128 0#32) shapeCasts_S784x128_S784x128⟩]
  q2 := [⟨wholeS, shapeCast S784x128 (broadcast S784x128 0#32) shapeCasts_S784x128_S784x128⟩]

variable (c : Dev nD) (i : grid0.Coords) (arg1 : Memref sig .tc .vmem S784x1536 .f32) (harg1 : arg1.IsWhole) (arg2 : Memref sig .tc .vmem S2048x1536 .f32) (harg2 : arg2.IsWhole)
  (arg3 : Memref sig .tc .vmem S784x3 .f32) (harg3 : arg3.IsWhole) (arg4 : Memref sig .tc .vmem S784x3 .i32) (harg4 : arg4.IsWhole)
  (arg5 : Memref sig .tc .vmem S784x128 .f32) (harg5 : arg5.IsWhole) (arg6 : Memref sig .tc .vmem S784x1536 .f32) (harg6 : arg6.IsWhole)
  (arg7 : Memref sig .tc .vmem S784x128 .f32) (harg7 : arg7.IsWhole) (arg8 : Memref sig .tc .vmem S784x128 .f32) (harg8 : arg8.IsWhole)
  (arg9 : Memref sig .tc .vmem S784x128 .f32) (harg9 : arg9.IsWhole) (arg10 : Memref sig .tc .vmem S784x128 .i32) (harg10 : arg10.IsWhole)
  (arg11 : Memref sig .tc .vmem S784x128 .i32) (harg11 : arg11.IsWhole) (arg12 : Memref sig .tc .vmem S784x128 .i32) (harg12 : arg12.IsWhole)
  (x0 : Vec F S784x1536 .f32) (x1 : Vec F S2048x1536 .f32)

/-- The first point's stores, chunk after chunk (the last chunk of the list first in program order). -/
def storesA : List (Fin 14) → Pieces F
  | [] => Pieces.init
  | k :: l =>
    (storesA l).push k
      (sweep (msqOf (View.readAt (Elt F) arg2.view wholeM.toLoadRect (harg2.unread x1)))
        (abOf (View.readAt (Elt F) arg2.view wholeM.toLoadRect (harg2.unread x1))
          (arg6.view.readCov [⟨wholeQ, k0_pay2 (View.readAt (Elt F) arg1.view wholeQ.toLoadRect (harg1.unread x0))⟩] wholeQ.toLoadRect))
        (baseOf i)
        (arg5.view.readCov [⟨wholeS, k0_pay1 (View.readAt (Elt F) arg1.view wholeQ.toLoadRect (harg1.unread x0))⟩] (rows k).toLoadRect) k
        ⟨arg7.view.readCov (storesA l).p0 (rows k).toLoadRect, arg8.view.readCov (storesA l).p1 (rows k).toLoadRect,
          arg9.view.readCov (storesA l).p2 (rows k).toLoadRect, arg10.view.readCov (storesA l).q0 (rows k).toLoadRect,
          arg11.view.readCov (storesA l).q1 (rows k).toLoadRect, arg12.view.readCov (storesA l).q2 (rows k).toLoadRect⟩ groups)

/-- The first point's stores are these. -/
theorem lists_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.1
      = [⟨wholeS, k0_pay1 (View.readAt (Elt F) arg1.view wholeQ.toLoadRect (harg1.unread x0))⟩] ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.1
      = [⟨wholeQ, k0_pay2 (View.readAt (Elt F) arg1.view wholeQ.toLoadRect (harg1.unread x0))⟩] ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.1
      = (storesA i arg1 harg1 arg2 harg2 arg5 arg6 arg7 arg8 arg9 arg10 arg11 arg12 x0 x1 chunks).p0 ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.1
      = (storesA i arg1 harg1 arg2 harg2 arg5 arg6 arg7 arg8 arg9 arg10 arg11 arg12 x0 x1 chunks).p1 ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.1
      = (storesA i arg1 harg1 arg2 harg2 arg5 arg6 arg7 arg8 arg9 arg10 arg11 arg12 x0 x1 chunks).p2 ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.2.1
      = (storesA i arg1 harg1 arg2 harg2 arg5 arg6 arg7 arg8 arg9 arg10 arg11 arg12 x0 x1 chunks).q0 ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.2.2.1
      = (storesA i arg1 harg1 arg2 harg2 arg5 arg6 arg7 arg8 arg9 arg10 arg11 arg12 x0 x1 chunks).q1 ∧
    (kernelRun0_A c i arg1 harg1 arg2 harg2 arg3 harg3 arg4 harg4 arg5 harg5 arg6 harg6 arg7 harg7 arg8 harg8 arg9 harg9 arg10 harg10 arg11 harg11 arg12 harg12 hc0 hc1 x0 x1).2.2.2.2.2.2.2.2.2.1
      = (storesA i arg1 harg1 arg2 harg2 arg5 arg6 arg7 arg8 arg9 arg10 arg11 arg12 x0 x1 chunks).q2 := by
  refine ⟨?_, ?_, ?_, ?_, ?_, ?_, ?_, ?_⟩ <;> sl_kernel_rfl

theorem canon_push {e : EltTy} (L : List (View.Piece (Elt F) S784x128 e)) (k k' : Fin 14) (f : Vec F S56x128 e) :
    part (View.canon ((⟨rows k, shapeCast S56x128 f shapeCasts_S56x128_S56x128⟩ : View.Piece (Elt F) S784x128 e) :: L)) k'
      = if k' = k then f else part (View.canon L) k' := by
  have h := canon_stores (fun _ => f) L k'
  funext x
  have h1 := h x [k] (List.nodup_singleton k)
  rw [shapeCast_self]
  simp only [List.map_cons, List.map_nil, List.cons_append, List.nil_append, List.mem_singleton] at h1
  refine Eq.trans h1 ?_
  split <;> rfl

theorem Six.mk_congr {a0 a1 a2 a0' a1' a2' : Vec F S56x128 .f32} {b0 b1 b2 b0' b1' b2' : Vec F S56x128 .i32} (h0 : a0 = a0') (h1 : a1 = a1')
    (h2 : a2 = a2') (h3 : b0 = b0') (h4 : b1 = b1') (h5 : b2 = b2') :
    (⟨a0, a1, a2, b0, b1, b2⟩ : Six F) = ⟨a0', a1', a2', b0', b1', b2'⟩ := by
  subst h0 h1 h2 h3 h4 h5; rfl

theorem Pieces.six_push (P : Pieces F) (k k' : Fin 14) (R : Six F) : (P.push k R).six k' = if k' = k then R else P.six k' := by
  refine (Six.mk_congr (canon_push P.p0 k k' R.a0) (canon_push P.p1 k k' R.a1) (canon_push P.p2 k k' R.a2)
    (canon_push (e := .i32) P.q0 k k' R.b0) (canon_push (e := .i32) P.q1 k k' R.b1) (canon_push (e := .i32) P.q2 k k' R.b2)).trans ?_
  split <;> rfl

theorem canon_fill {e : EltTy} (X : Vec F S784x128 e) : View.canon [(⟨wholeS, X⟩ : View.Piece (Elt F) S784x128 e)] = X :=
  View.canon_cons_unit_lit (S := S784x128) inb_S784x128_S784x128_0_0 X [] (by intro a; fin_cases a <;> rfl)

theorem canon_fillQ {e : EltTy} (X : Vec F S784x1536 e) : View.canon [(⟨wholeQ, X⟩ : View.Piece (Elt F) S784x1536 e)] = X :=
  View.canon_cons_unit_lit (S := S784x1536) inb_S784x1536_S784x1536_0_0 X [] (by intro a; fin_cases a <;> rfl)

theorem Pieces.six_init (x0 : Vec F S784x1536 .f32) (k : Fin 14) : (Pieces.init (F := F)).six k = (Scr.init x0).six k := by
  unfold Pieces.init Pieces.six Scr.init Scr.six
  simp only [canon_fill, shapeCast_self]

theorem readCov_rows {e : EltTy} (v : View sig .tc .vmem S784x128 e) (L : List (View.Piece (Elt F) S784x128 e)) (k : Fin 14) :
    v.readCov L (rows k).toLoadRect = part (View.canon L) k :=
  View.readCov_eq_canon' v L (rows k).toLoadRect

theorem readCov_wholeQ {e : EltTy} (v : View sig .tc .vmem S784x1536 e) (L : List (View.Piece (Elt F) S784x1536 e)) :
    v.readCov L wholeQ.toLoadRect = View.canon L := by
  rw [View.readCov_eq_canon']
  exact View.ld_unit_lit (S := S784x1536) inb_S784x1536_S784x1536_0_0 (View.canon L) (by intro a; fin_cases a <;> rfl)

theorem readAt_wholeQ (m : Memref sig .tc .vmem S784x1536 .f32) (h : m.IsWhole) (X : Vec F S784x1536 .f32) :
    View.readAt (Elt F) m.view wholeQ.toLoadRect (h.unread X) = X :=
  (readAt_unread m h wholeQ X).trans
    (View.ld_unit_lit (S := S784x1536) inb_S784x1536_S784x1536_0_0 X (by intro a; fin_cases a <;> rfl))

theorem readAt_wholeM (m : Memref sig .tc .vmem S2048x1536 .f32) (h : m.IsWhole) (X : Vec F S2048x1536 .f32) :
    View.readAt (Elt F) m.view wholeM.toLoadRect (h.unread X) = X :=
  (readAt_unread m h wholeM X).trans
    (View.ld_unit_lit (S := S2048x1536) inb_S2048x1536_S2048x1536_0_0 X (by intro a; fin_cases a <;> rfl))

/-- Chunk by chunk, the first point's stores leave the initial values one block further. -/
theorem six_storesA (k : Fin 14) : ∀ l : List (Fin 14), l.Nodup →
    (storesA i arg1 harg1 arg2 harg2 arg5 arg6 arg7 arg8 arg9 arg10 arg11 arg12 x0 x1 l).six k = if k ∈ l then (Scr.init x0).after x1 i k else (Scr.init x0).six k
  | [], _ => by
    simp only [List.not_mem_nil, if_false]
    exact Pieces.six_init x0 k
  | k' :: l, h => by
    have ih := six_storesA k l (List.nodup_cons.mp h).2
    rw [storesA, Pieces.six_push]
    rcases eq_or_ne k k' with rfl | hk
    · rw [if_neg (List.nodup_cons.mp h).1] at ih
      simp only [if_true, List.mem_cons, true_or, readCov_rows, readCov_wholeQ, canon_fill, canon_fillQ, readAt_wholeQ, readAt_wholeM]
      unfold Scr.after
      rw [← ih]
      rfl
    · simp only [hk, if_false, List.mem_cons, false_or]
      exact ih

theorem canon_storesA (k : Fin 14) : (storesA i arg1 harg1 arg2 harg2 arg5 arg6 arg7 arg8 arg9 arg10 arg11 arg12 x0 x1 chunks).six k = (Scr.init x0).after x1 i k := by
  rw [six_storesA i arg1 harg1 arg2 harg2 arg5 arg6 arg7 arg8 arg9 arg10 arg11 arg12 x0 x1 k chunks chunks_nodup, if_pos (mem_chunks k)]

theorem Scr.mk_congr {q q' : Vec F S784x128 .f32} {p p' : Vec F S784x1536 .f32} {a0 a1 a2 a0' a1' a2' : Vec F S784x128 .f32}
    {b0 b1 b2 b0' b1' b2' : Vec F S784x128 .i32} (hq : q = q') (hp : p = p') (h0 : a0 = a0') (h1 : a1 = a1')
    (h2 : a2 = a2') (h3 : b0 = b0') (h4 : b1 = b1') (h5 : b2 = b2') :
    (⟨q, p, a0, a1, a2, b0, b1, b2⟩ : Scr F) = ⟨q', p', a0', a1', a2', b0', b1', b2'⟩ := by
  subst hq hp h0 h1 h2 h3 h4 h5; rfl

theorem Pieces.canon_eq (P : Pieces F) (f : Fin 14 → Six F) (h : ∀ k, P.six k = f k) :
    View.canon P.p0 = glue (fun k => (f k).a0) ∧
    View.canon P.p1 = glue (fun k => (f k).a1) ∧
    View.canon P.p2 = glue (fun k => (f k).a2) ∧
    View.canon P.q0 = glue (fun k => (f k).b0) ∧
    View.canon P.q1 = glue (fun k => (f k).b1) ∧
    View.canon P.q2 = glue (fun k => (f k).b2) := by
  have he {e : EltTy} {X : Vec F S784x128 e} {g : Fin 14 → Vec F S56x128 e} (h : ∀ k, part X k = g k) : X = glue g :=
    ext_part (F := F) fun k => (h k).trans (part_glue g k).symm
  exact ⟨he fun k => congrArg Six.a0 (h k), he fun k => congrArg Six.a1 (h k), he fun k => congrArg Six.a2 (h k), he fun k => congrArg Six.b0 (h k), he fun k => congrArg Six.b1 (h k), he fun k => congrArg Six.b2 (h k)⟩

/-- The first point leaves the initial values one block further. -/
theorem leaves_A (hc0 : cond0_0 i) (hc1 : ¬cond0_1 i) :
    (⟨sout0_A_0 c i arg1 harg1 arg2 harg2 arg3 harg3 arg4 harg4 arg5 harg5 arg6 harg6 arg7 harg7 arg8 harg8 arg9 harg9 arg10 harg10 arg11 harg11 arg12 harg12 hc0 hc1 x0 x1,
      sout0_A_1 c i arg1 harg1 arg2 harg2 arg3 harg3 arg4 harg4 arg5 harg5 arg6 harg6 arg7 harg7 arg8 harg8 arg9 harg9 arg10 harg10 arg11 harg11 arg12 harg12 hc0 hc1 x0 x1,
      sout0_A_2 c i arg1 harg1 arg2 harg2 arg3 harg3 arg4 harg4 arg5 harg5 arg6 harg6 arg7 harg7 arg8 harg8 arg9 harg9 arg10 harg10 arg11 harg11 arg12 harg12 hc0 hc1 x0 x1,
      sout0_A_3 c i arg1 harg1 arg2 harg2 arg3 harg3 arg4 harg4 arg5 harg5 arg6 harg6 arg7 harg7 arg8 harg8 arg9 harg9 arg10 harg10 arg11 harg11 arg12 harg12 hc0 hc1 x0 x1,
      sout0_A_4 c i arg1 harg1 arg2 harg2 arg3 harg3 arg4 harg4 arg5 harg5 arg6 harg6 arg7 harg7 arg8 harg8 arg9 harg9 arg10 harg10 arg11 harg11 arg12 harg12 hc0 hc1 x0 x1,
      sout0_A_5 c i arg1 harg1 arg2 harg2 arg3 harg3 arg4 harg4 arg5 harg5 arg6 harg6 arg7 harg7 arg8 harg8 arg9 harg9 arg10 harg10 arg11 harg11 arg12 harg12 hc0 hc1 x0 x1,
      sout0_A_6 c i arg1 harg1 arg2 harg2 arg3 harg3 arg4 harg4 arg5 harg5 arg6 harg6 arg7 harg7 arg8 harg8 arg9 harg9 arg10 harg10 arg11 harg11 arg12 harg12 hc0 hc1 x0 x1,
      sout0_A_7 c i arg1 harg1 arg2 harg2 arg3 harg3 arg4 harg4 arg5 harg5 arg6 harg6 arg7 harg7 arg8 harg8 arg9 harg9 arg10 harg10 arg11 harg11 arg12 harg12 hc0 hc1 x0 x1⟩ : Scr F)
    = (Scr.init x0).step x1 i := by
  obtain ⟨g0, g1, h0, h1, h2, h3, h4, h5⟩ := lists_A c i arg1 harg1 arg2 harg2 arg3 harg3 arg4 harg4 arg5 harg5 arg6 harg6 arg7 harg7 arg8 harg8 arg9 harg9 arg10 harg10 arg11 harg11 arg12 harg12
    x0 x1 hc0 hc1
  obtain ⟨k0, k1, k2, k3, k4, k5⟩ := Pieces.canon_eq _ _ (canon_storesA i arg1 harg1 arg2 harg2 arg5 arg6 arg7 arg8 arg9 arg10 arg11 arg12 x0 x1)
  unfold Scr.step
  refine Scr.mk_congr ?_ ?_ ?_ ?_ ?_ ?_ ?_ ?_
  · unfold sout0_A_0
    rw [g0, read_stores, canon_fill, readAt_wholeQ]
    rfl
  · unfold sout0_A_1
    rw [g1, read_stores, canon_fillQ, readAt_wholeQ]
    rfl
  · unfold sout0_A_2
    rw [h0, read_stores, k0]
  · unfold sout0_A_3
    rw [h1, read_stores, k1]
  · unfold sout0_A_4
    rw [h2, read_stores, k2]
  · unfold sout0_A_5
    rw [h3, read_stores, k3]
  · unfold sout0_A_6
    rw [h4, read_stores, k4]
  · unfold sout0_A_7
    rw [h5, read_stores, k5]

end Cert.KernelIdeal.Sweep

end
-- ==== Proof.Course.lean ====
module

public import proofs.«01_k».proof.Proof.Init
public import proofs.«01_k».proof.Proof.Gen.KernelIdeal.Value
public import Idealize.ShloMosaic.Lib.Pipeline.ValueKit.Point

/-!
The kernel's run over its 32 points: the scratch arrays after each point, and the two results, which the last point
stores.
-/

@[expose] public section

set_option maxRecDepth 16384
set_option maxHeartbeats 1000000

noncomputable section

namespace Cert.KernelIdeal.Sweep

open Idealize.ShloMosaic Idealize.ShloMosaic.TcCoe Idealize.ShloMosaic.Tactic
open Cert.KernelIdeal Cert.KernelIdeal.Gen Cert.KernelIdeal.Value

variable {F : FTy → Type} [FloatOps F]

/-- The arrays a point leaves: the two results and the scratch. -/
abbrev Left (F : FTy → Type) := Vec F S784x3 .f32 × Vec F S784x3 .i32 × Vec F S784x128 .f32 × Vec F S784x1536 .f32 ×
  Vec F S784x128 .f32 × Vec F S784x128 .f32 × Vec F S784x128 .f32 × Vec F S784x128 .i32 × Vec F S784x128 .i32 × Vec F S784x128 .i32

/-- The scratch among the arrays a point leaves. -/
def Left.scr (o : Left F) : Scr F :=
  ⟨o.2.2.1, o.2.2.2.1, o.2.2.2.2.1, o.2.2.2.2.2.1, o.2.2.2.2.2.2.1, o.2.2.2.2.2.2.2.1, o.2.2.2.2.2.2.2.2.1, o.2.2.2.2.2.2.2.2.2⟩

variable (m : (ℓ : Loc nD τ sig) → Buf (Elt F) ℓ) (c : Dev nD)

theorem scr_first (t : Fin cfg0.N) (acc : Left F) (h0 : t.val % 32 = 0) (h1 : ¬t.val % 32 = 31) :
    Left.scr (stAt0 m c t.val t.isLt acc) = (Scr.init (iblk m c 0 t)).step (iblk m c 1 t) (grid0.coords t) := by
  refine (congrArg Left.scr (stAt0_A m c t acc h0 h1)).trans ?_
  dsimp only [Left.scr]
  exact leaves_A c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (iblk m c 0 t) (iblk m c 1 t) ((hcond0_0 t).mpr h0) ((not_congr (hcond0_1 t)).mpr h1)

theorem scr_mid (t : Fin cfg0.N) (acc : Left F) (h0 : ¬t.val % 32 = 0) (h1 : ¬t.val % 32 = 31) :
    Left.scr (stAt0 m c t.val t.isLt acc) = (Left.scr acc).step (iblk m c 1 t) (grid0.coords t) := by
  refine (congrArg Left.scr (stAt0_B m c t acc h0 h1)).trans ?_
  dsimp only [Left.scr]
  exact leaves_B c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (iblk m c 0 t) (iblk m c 1 t) acc.2.2.1 acc.2.2.2.1 acc.2.2.2.2.1 acc.2.2.2.2.2.1 acc.2.2.2.2.2.2.1 acc.2.2.2.2.2.2.2.1 acc.2.2.2.2.2.2.2.2.1 acc.2.2.2.2.2.2.2.2.2 ((not_congr (hcond0_0 t)).mpr h0) ((not_congr (hcond0_1 t)).mpr h1)

theorem res_last (t : Fin cfg0.N) (acc : Left F) (h0 : ¬t.val % 32 = 0) (h1 : t.val % 32 = 31) :
    (stAt0 m c t.val t.isLt acc).1 = ((Left.scr acc).step (iblk m c 1 t) (grid0.coords t)).lanes.vals ∧
      (stAt0 m c t.val t.isLt acc).2.1 = ((Left.scr acc).step (iblk m c 1 t) (grid0.coords t)).lanes.idxs := by
  have e := leaves_out c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (iblk m c 0 t) (iblk m c 1 t) acc.2.2.1 acc.2.2.2.1 acc.2.2.2.2.1 acc.2.2.2.2.2.1 acc.2.2.2.2.2.2.1 acc.2.2.2.2.2.2.2.1 acc.2.2.2.2.2.2.2.2.1 acc.2.2.2.2.2.2.2.2.2 ((not_congr (hcond0_0 t)).mpr h0) ((hcond0_1 t).mpr h1)
  exact ⟨(congrArg Prod.fst (stAt0_C m c t acc h0 h1)).trans e.1,
    (congrArg (fun o : Left F => o.2.1) (stAt0_C m c t acc h0 h1)).trans e.2⟩

/-- The scratch after the first `n + 1` points, from the blocks of the two arrays. -/
def course (x0 : Vec F S784x1536 .f32) (x1 : Fin cfg0.N → Vec F S2048x1536 .f32) : (n : ℕ) → n < cfg0.N → Scr F
  | 0, h => (Scr.init x0).step (x1 ⟨0, h⟩) (grid0.coords ⟨0, h⟩)
  | n + 1, h => (course x0 x1 n (Nat.lt_of_succ_lt h)).step (x1 ⟨n + 1, h⟩) (grid0.coords ⟨n + 1, h⟩)

theorem scr_eq_course : ∀ (n : ℕ) (h : n < cfg0.N) (_ : n < 31),
    Left.scr (outsAt0 m c n h) = course (iblk m c 0 ⟨0, Nat.lt_of_le_of_lt (Nat.zero_le n) h⟩) (fun t => iblk m c 1 t) n h
  | 0, h, _ => by
    rw [outsAt0_zero]
    exact scr_first m c ⟨0, h⟩ junk0 (Nat.zero_mod 32) (by simp)
  | n + 1, h, hn => by
    rw [outsAt0_succ, scr_mid m c ⟨n + 1, h⟩ _ (by simp only; omega) (by simp only; omega),
      scr_eq_course n (Nat.lt_of_succ_lt h) (by omega)]
    rfl

theorem lt_N {n : ℕ} (h : n < 32) : n < cfg0.N := lt_of_lt_of_eq h N_0.symm

/-- The two results are read from the scratch after the last point. -/
theorem results_course :
    G2 m c = (course (iblk m c 0 ⟨0, lt_N (by decide)⟩) (fun t => iblk m c 1 t) 31 (lt_N (by decide))).lanes.vals ∧
      G3 m c = (course (iblk m c 0 ⟨0, lt_N (by decide)⟩) (fun t => iblk m c 1 t) 31 (lt_N (by decide))).lanes.idxs := by
  have h := res_last m c ⟨31, lt_N (by decide)⟩ (outsAt0 m c 30 (lt_N (by decide))) (by decide) (by decide)
  rw [scr_eq_course m c 30 _ (by decide)] at h
  rw [G2_last, G3_last, ← outsAt0_sweep m c 31 (lt_N (by decide)), outsAt0_succ]
  exact h

/-! ## The blocks -/

theorem win_index : ∀ t : Fin cfg0.N, win0_0.index t = ![0, 0] ∧ win0_1.index t = ![t.val, 0] := by
  decide +kernel

/-- The first block is the whole array of queries. -/
theorem block_queries (t : Fin cfg0.N) (y : S784x1536.Idx) : iblk m c 0 t y = m (c.tc.loc main_arg0) y := by
  blk_ext [iblk, V, win_index t]

/-- Block `t` of the bank is its rows from `2048 t` on. -/
theorem block_bank (t : Fin cfg0.N) (a : Fin 2048) (b : Fin 1536) (h : 2048 * t.val + a.val < 65536) :
    iblk m c 1 t (ix2 a b) = m (c.tc.loc main_arg1) (ix2 ⟨2048 * t.val + a.val, h⟩ b) := by
  blk_ext [iblk, V, win_index t]

/-- The first column of block `t`. -/
theorem base_val (t : Fin cfg0.N) : baseOf (grid0.coords t) = BitVec.ofNat 32 (2048 * t.val) := by
  revert t; decide +kernel

end Cert.KernelIdeal.Sweep

end
-- ==== Proof.Slots.lean ====
module

public import Idealize.ShloMosaic.Lib.SortPrefix
public import Mathlib.Data.EReal.Basic

/-!
One lane of one query: three kept values with the columns they come from, in the order (value, column). A new column
enters by comparing its value only, which is enough because its number is larger than every number kept.
-/

@[expose] public section

noncomputable section

namespace Cert.KernelIdeal.Sweep

/-- Three values and the column of each. -/
@[ext] structure Tri where
  a0 : EReal
  a1 : EReal
  a2 : EReal
  b0 : ℤ
  b1 : ℤ
  b2 : ℤ

/-- A new value enters. -/
def Tri.ins (v : EReal) (x : ℤ) (s : Tri) : Tri where
  a0 := min s.a0 v
  a1 := min s.a1 (max s.a0 v)
  a2 := min s.a2 (max s.a1 (max s.a0 v))
  b0 := if v < s.a0 then x else s.b0
  b1 := if v < s.a0 then s.b0 else if v < s.a1 then x else s.b1
  b2 := if v < s.a1 then s.b1 else if v < s.a2 then x else s.b2

/-- A slot is empty or holds the value and the column of step `t`. -/
def Holds (d : ℕ → EReal) (col : ℕ → ℤ) (n : ℕ) (a : EReal) (b : ℤ) (t : ℕ) : Prop :=
  a = ⊤ ∨ (t < n ∧ a = d t ∧ b = col t)

/-- `(a, t)` comes before `(a', t')`. -/
def Before (a : EReal) (t : ℕ) (a' : EReal) (t' : ℕ) : Prop := a < a' ∨ (a = a' ∧ t < t')

theorem Before.trans {a a' a'' : EReal} {t t' t'' : ℕ} (h : Before a t a' t') (h' : Before a' t' a'' t'') :
    Before a t a'' t'' := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The three slots after `n` steps. -/
structure Kept (d : ℕ → EReal) (col : ℕ → ℤ) (n : ℕ) (s : Tri) (t0 t1 t2 : ℕ) : Prop where
  h0 : Holds d col n s.a0 s.b0 t0
  h1 : Holds d col n s.a1 s.b1 t1
  h2 : Holds d col n s.a2 s.b2 t2
  o1 : s.a1 = ⊤ ∨ Before s.a0 t0 s.a1 t1
  o2 : s.a2 = ⊤ ∨ Before s.a1 t1 s.a2 t2
  all : ∀ t < n, d t < ⊤ → (t = t0 ∧ s.a0 = d t) ∨ (t = t1 ∧ s.a1 = d t) ∨ (t = t2 ∧ s.a2 = d t) ∨ Before s.a2 t2 (d t) t

theorem Holds.succ {d : ℕ → EReal} {col : ℕ → ℤ} {n : ℕ} {a : EReal} {b : ℤ} {t : ℕ} (h : Holds d col n a b t) :
    Holds d col (n + 1) a b t := h.imp id fun h => ⟨h.1.trans (Nat.lt_succ_self n), h.2⟩

theorem Holds.before {d : ℕ → EReal} {col : ℕ → ℤ} {n : ℕ} {a : EReal} {b : ℤ} {t : ℕ} (h : Holds d col n a b t)
    {v : EReal} (hv : a ≤ v) : v = ⊤ ∨ Before a t v n := by
  rcases h with rfl | ⟨ht, -, -⟩
  · exact .inl (top_le_iff.mp hv)
  · rcases hv.lt_or_eq with hv | hv
    · exact .inr (.inl hv)
    · exact .inr (.inr ⟨hv, ht⟩)

theorem le_of_before {a a' : EReal} {t t' : ℕ} (h : a' = ⊤ ∨ Before a t a' t') : a ≤ a' := by
  rcases h with rfl | h | h
  · exact le_top
  · exact h.le
  · exact h.1.le

/-- Nothing is kept before the first step. -/
theorem Kept.empty (d : ℕ → EReal) (col : ℕ → ℤ) (b0 b1 b2 : ℤ) : Kept d col 0 ⟨⊤, ⊤, ⊤, b0, b1, b2⟩ 0 0 0 where
  h0 := .inl rfl
  h1 := .inl rfl
  h2 := .inl rfl
  o1 := .inl rfl
  o2 := .inl rfl
  all t ht := absurd ht (Nat.not_lt_zero t)

/-- One step keeps the three first among the columns seen. -/
theorem Kept.step {d : ℕ → EReal} {col : ℕ → ℤ} {n : ℕ} {s : Tri} {t0 t1 t2 : ℕ} (h : Kept d col n s t0 t1 t2) :
    ∃ t0' t1' t2', Kept d col (n + 1) (Tri.ins (d n) (col n) s) t0' t1' t2' := by
  have l1 := le_of_before h.o1
  have l2 := le_of_before h.o2
  have new : Holds d col (n + 1) (d n) (col n) n := .inr ⟨Nat.lt_succ_self n, rfl, rfl⟩
  by_cases c0 : d n < s.a0
  · have c1 : d n < s.a1 := c0.trans_le l1
    have e : Tri.ins (d n) (col n) s = ⟨d n, s.a0, s.a1, col n, s.b0, s.b1⟩ := by
      simp [Tri.ins, c0, c1, c0.le, l1, l2]
    rw [e]
    refine ⟨n, t0, t1, new, h.h0.succ, h.h1.succ, .inr (.inl c0), h.o1, fun t ht hd => ?_⟩
    rcases Nat.lt_succ_iff_lt_or_eq.mp ht with ht | rfl
    · rcases h.all t ht hd with g | g | ⟨rfl, g⟩ | g
      · exact .inr (.inl g)
      · exact .inr (.inr (.inl g))
      · exact .inr (.inr (.inr (g ▸ h.o2.resolve_left fun e => hd.ne (g ▸ e))))
      · refine .inr (.inr (.inr ((h.o2.resolve_left fun e => ?_).trans g)))
        rw [e] at g
        rcases g with g | g
        · exact not_top_lt g
        · exact hd.ne g.1.symm
    · exact .inl ⟨rfl, rfl⟩
  · have c0' := not_lt.mp c0
    by_cases c1 : d n < s.a1
    · have e : Tri.ins (d n) (col n) s = ⟨s.a0, d n, s.a1, s.b0, col n, s.b1⟩ := by
        simp [Tri.ins, c0, c1, c0', c1.le, l2]
      rw [e]
      refine ⟨t0, n, t1, h.h0.succ, new, h.h1.succ, h.h0.before c0', .inr (.inl c1), fun t ht hd => ?_⟩
      rcases Nat.lt_succ_iff_lt_or_eq.mp ht with ht | rfl
      · rcases h.all t ht hd with g | g | ⟨rfl, g⟩ | g
        · exact .inl g
        · exact .inr (.inr (.inl g))
        · exact .inr (.inr (.inr (g ▸ h.o2.resolve_left fun e => hd.ne (g ▸ e))))
        · refine .inr (.inr (.inr ((h.o2.resolve_left fun e => ?_).trans g)))
          rw [e] at g
          rcases g with g | g
          · exact not_top_lt g
          · exact hd.ne g.1.symm
      · exact .inr (.inl ⟨rfl, rfl⟩)
    · have c1' := not_lt.mp c1
      by_cases c2 : d n < s.a2
      · have e : Tri.ins (d n) (col n) s = ⟨s.a0, s.a1, d n, s.b0, s.b1, col n⟩ := by
          simp [Tri.ins, c0, c1, c2, c0', c1', c2.le]
        rw [e]
        refine ⟨t0, t1, n, h.h0.succ, h.h1.succ, new, h.o1, h.h1.before c1', fun t ht hd => ?_⟩
        rcases Nat.lt_succ_iff_lt_or_eq.mp ht with ht | rfl
        · rcases h.all t ht hd with g | g | ⟨rfl, g⟩ | g
          · exact .inl g
          · exact .inr (.inl g)
          · exact .inr (.inr (.inr (.inl (g ▸ c2))))
          · exact .inr (.inr (.inr (.inl (c2.trans_le (g.elim le_of_lt fun g => g.1.le)))))
        · exact .inr (.inr (.inl ⟨rfl, rfl⟩))
      · have c2' := not_lt.mp c2
        have e : Tri.ins (d n) (col n) s = s := by
          ext <;> simp [Tri.ins, c0, c1, c2, c0', c1', c2']
        rw [e]
        refine ⟨t0, t1, t2, h.h0.succ, h.h1.succ, h.h2.succ, h.o1, h.o2, fun t ht hd => ?_⟩
        rcases Nat.lt_succ_iff_lt_or_eq.mp ht with ht | rfl
        · exact h.all t ht hd
        · exact .inr (.inr (.inr ((h.h2.before c2').resolve_left hd.ne)))

/-! ## Distances -/

/-- Of two equal first values the smaller column comes first. -/
def Tri.swap01 (s : Tri) : Tri :=
  { s with
    b0 := if s.a0 = s.a1 ∧ s.b1 < s.b0 then s.b1 else s.b0
    b1 := if s.a0 = s.a1 ∧ s.b1 < s.b0 then s.b0 else s.b1 }

def Tri.swap12 (s : Tri) : Tri :=
  { s with
    b1 := if s.a1 = s.a2 ∧ s.b2 < s.b1 then s.b2 else s.b1
    b2 := if s.a1 = s.a2 ∧ s.b2 < s.b1 then s.b1 else s.b2 }

/-- `(x, y)` is in one of the slots. -/
def Tri.Has (s : Tri) (x : EReal) (y : ℤ) : Prop := (s.a0 = x ∧ s.b0 = y) ∨ (s.a1 = x ∧ s.b1 = y) ∨ (s.a2 = x ∧ s.b2 = y)

theorem Tri.has_swap01 (s : Tri) (x : EReal) (y : ℤ) : s.swap01.Has x y ↔ s.Has x y := by
  unfold Tri.swap01 Tri.Has
  by_cases h : s.a0 = s.a1 ∧ s.b1 < s.b0
  · simp only [h, and_self, if_true]; tauto
  · simp only [h, if_false]

theorem Tri.has_swap12 (s : Tri) (x : EReal) (y : ℤ) : s.swap12.Has x y ↔ s.Has x y := by
  unfold Tri.swap12 Tri.Has
  by_cases h : s.a1 = s.a2 ∧ s.b2 < s.b1
  · simp only [h, and_self, if_true]; tauto
  · simp only [h, if_false]

/-- The three exchanges the kernel makes. -/
def Tri.net (s : Tri) : Tri := s.swap01.swap12.swap01

theorem Tri.has_net (s : Tri) (x : EReal) (y : ℤ) : s.net.Has x y ↔ s.Has x y :=
  (Tri.has_swap01 _ x y).trans ((Tri.has_swap12 _ x y).trans (Tri.has_swap01 _ x y))

/-- The exchanges order the columns of equal values, where no column is there twice. -/
theorem Tri.net_sorted (s : Tri) (d01 : s.a1 ≠ ⊤ → s.a0 = s.a1 → s.b0 ≠ s.b1) (d12 : s.a2 ≠ ⊤ → s.a1 = s.a2 → s.b1 ≠ s.b2)
    (d02 : s.a2 ≠ ⊤ → s.a0 = s.a1 → s.a1 = s.a2 → s.b0 ≠ s.b2) :
    (s.a1 ≠ ⊤ → s.a0 = s.a1 → s.net.b0 < s.net.b1) ∧ (s.a2 ≠ ⊤ → s.a1 = s.a2 → s.net.b1 < s.net.b2) := by
  by_cases e1 : s.a0 = s.a1 <;> by_cases e2 : s.a1 = s.a2
  · rw [e2] at e1 d01
    by_cases ht : s.a2 = ⊤
    · simp [e2, ht]
    have h1 := d01 ht e1
    have h2 := d12 ht e2
    have h3 := d02 ht (e1.trans e2.symm) e2
    simp only [Tri.net, Tri.swap01, Tri.swap12, e1, e2, true_and]
    constructor <;> intro _ _ <;> split_ifs <;> omega
  · refine ⟨fun ht _ => ?_, fun _ h => absurd h e2⟩
    have h1 := d01 ht e1
    simp only [Tri.net, Tri.swap01, Tri.swap12, e1, e2, true_and, false_and, if_false]
    split_ifs <;> omega
  · refine ⟨fun _ h => absurd h e1, fun ht _ => ?_⟩
    have h2 := d12 ht e2
    rw [e2] at e1
    simp only [Tri.net, Tri.swap01, Tri.swap12, e1, e2, true_and, false_and, if_false]
    split_ifs <;> omega
  · exact ⟨fun _ h => absurd h e1, fun _ h => absurd h e2⟩

theorem Tri.net_a (s : Tri) : s.net.a0 = s.a0 ∧ s.net.a1 = s.a1 ∧ s.net.a2 = s.a2 := ⟨rfl, rfl, rfl⟩

end Cert.KernelIdeal.Sweep

end
-- ==== Proof.Rounds.lean ====
module

public import proofs.«01_k».proof.Proof.Slots
public import Mathlib.Data.Prod.Lex

/-!
The end of the kernel, on one query: each lane's three columns in the order of their distances, and one round that
picks the first column of all the lanes and removes it.
-/

@[expose] public section

noncomputable section

namespace Cert.KernelIdeal.Sweep

/-- `(x, y)` comes before `(x', y')`: by the value, then by the column. -/
def Lt (x : EReal) (y : ℤ) (x' : EReal) (y' : ℤ) : Prop := x < x' ∨ (x = x' ∧ y < y')

theorem Lt.trans {x x' x'' : EReal} {y y' y'' : ℤ} (h : Lt x y x' y') (h' : Lt x' y' x'' y'') : Lt x y x'' y'' := by
  rcases h with h | ⟨h, k⟩ <;> rcases h' with h' | ⟨h', k'⟩
  · exact .inl (h.trans h')
  · exact .inl (h' ▸ h)
  · exact .inl (h ▸ h')
  · exact .inr ⟨h.trans h', k.trans k'⟩

theorem Lt.irrefl {x : EReal} {y : ℤ} (h : Lt x y x y) : False :=
  h.elim (lt_irrefl x) fun h => lt_irrefl y h.2

theorem Lt.le {x x' : EReal} {y y' : ℤ} (h : Lt x y x' y') : x ≤ x' := h.elim le_of_lt fun h => h.1.le

/-- The lane of a column. -/
def lane (k : ℕ) : Fin 128 := ⟨k % 128, Nat.mod_lt k (by decide)⟩

/-! ## One lane -/

/-- What is needed of the map from squared distances to distances: it is increasing, and strictly so above `c`. -/
structure Clamp (f : EReal → EReal) (c : EReal) : Prop where
  mono : Monotone f
  strict : ∀ x y, c < y → x < y → f x < f y
  top : f ⊤ = ⊤
  of_top : ∀ x, f x = ⊤ → x = ⊤

/-- At most three of the columns have a squared distance of at most `c`. -/
def Few (D : ℕ → EReal) (c : EReal) : Prop := ∀ S : Finset ℕ, (∀ k ∈ S, k < 65536 ∧ D k ≤ c) → S.card ≤ 3

/-- One lane's slots hold the lane's three first columns, in order. -/
structure LaneOk (g : ℕ → EReal) (l : Fin 128) (s : Tri) : Prop where
  mem : ∀ x y, s.Has x y → x = ⊤ ∨ ∃ k < 65536, lane k = l ∧ x = g k ∧ y = k
  o1 : s.a1 = ⊤ ∨ Lt s.a0 s.b0 s.a1 s.b1
  o2 : s.a2 = ⊤ ∨ Lt s.a1 s.b1 s.a2 s.b2
  all : ∀ k < 65536, lane k = l → g k < ⊤ → s.Has (g k) k ∨ ∀ x y, s.Has x y → Lt x y (g k) k

/-- The three distances of a lane, ordered. -/
def Tri.finish (f : EReal → EReal) (s : Tri) : Tri := Tri.net ⟨f s.a0, f s.a1, f s.a2, s.b0, s.b1, s.b2⟩

theorem Before.ne {d : ℕ → EReal} {s t : ℕ} (h : Before (d s) s (d t) t) : s ≠ t := by
  rintro rfl
  exact h.elim (lt_irrefl _) fun h => lt_irrefl _ h.2

theorem laneOk_of_kept {D : ℕ → EReal} {f : EReal → EReal} {c : EReal} (hf : Clamp f c) (few : Few D c) (l : Fin 128)
    {s : Tri} {t0 t1 t2 : ℕ}
    (h : Kept (fun t => D (l.val + 128 * t)) (fun t => ((l.val + 128 * t : ℕ) : ℤ)) 512 s t0 t1 t2) :
    LaneOk (fun k => f (D k)) l (s.finish f) := by
  have lt {t : ℕ} (ht : t < 512) : l.val + 128 * t < 65536 := by have := l.isLt; omega
  have ln {t : ℕ} : lane (l.val + 128 * t) = l := Fin.ext (by have := l.isLt; simp only [lane]; omega)
  have fin {a : EReal} {b : ℤ} {t : ℕ} (ha : a ≠ ⊤)
      (hh : Holds (fun t => D (l.val + 128 * t)) (fun t => ((l.val + 128 * t : ℕ) : ℤ)) 512 a b t) := hh.resolve_left ha
  have nt {a : EReal} (ha : f a ≠ ⊤) : a ≠ ⊤ := fun e => ha (e ▸ hf.top)
  have l1 := le_of_before h.o1
  have l2 := le_of_before h.o2
  -- different slots hold different columns
  have n01 : s.a1 ≠ ⊤ → s.b0 ≠ s.b1 := fun ha => by
    have b := h.o1.resolve_left ha
    obtain ⟨-, e1, k1⟩ := fin ha h.h1
    obtain ⟨-, e0, k0⟩ := fin (ne_top_of_le_ne_top ha l1) h.h0
    rw [e0, e1] at b
    have := Before.ne (d := fun t => D (l.val + 128 * t)) b
    simp only [k0, k1]
    omega
  have n12 : s.a2 ≠ ⊤ → s.b1 ≠ s.b2 := fun ha => by
    have b := h.o2.resolve_left ha
    obtain ⟨-, e1, k1⟩ := fin ha h.h2
    obtain ⟨-, e0, k0⟩ := fin (ne_top_of_le_ne_top ha l2) h.h1
    rw [e0, e1] at b
    have := Before.ne (d := fun t => D (l.val + 128 * t)) b
    simp only [k0, k1]
    omega
  have n02 : s.a2 ≠ ⊤ → s.b0 ≠ s.b2 := fun ha => by
    have b := (h.o1.resolve_left (ne_top_of_le_ne_top ha l2)).trans (h.o2.resolve_left ha)
    obtain ⟨-, e1, k1⟩ := fin ha h.h2
    obtain ⟨-, e0, k0⟩ := fin (ne_top_of_le_ne_top ha (l1.trans l2)) h.h0
    rw [e0, e1] at b
    have := Before.ne (d := fun t => D (l.val + 128 * t)) b
    simp only [k0, k1]
    omega
  have hs := Tri.net_sorted ⟨f s.a0, f s.a1, f s.a2, s.b0, s.b1, s.b2⟩ (fun a _ => n01 (nt a)) (fun a _ => n12 (nt a))
    (fun a _ _ => n02 (nt a))
  refine ⟨fun x y hxy => ?_, ?_, ?_, fun k hk hl hg => ?_⟩
  · rcases (Tri.has_net _ x y).mp hxy with ⟨rfl, rfl⟩ | ⟨rfl, rfl⟩ | ⟨rfl, rfl⟩
    · rcases h.h0 with e | ⟨ht, e, e'⟩
      · exact .inl (by simp only [e, hf.top])
      · exact .inr ⟨_, lt ht, ln, congrArg f e, e'⟩
    · rcases h.h1 with e | ⟨ht, e, e'⟩
      · exact .inl (by simp only [e, hf.top])
      · exact .inr ⟨_, lt ht, ln, congrArg f e, e'⟩
    · rcases h.h2 with e | ⟨ht, e, e'⟩
      · exact .inl (by simp only [e, hf.top])
      · exact .inr ⟨_, lt ht, ln, congrArg f e, e'⟩
  · by_cases ht : f s.a1 = ⊤
    · exact .inl ht
    · rcases (hf.mono l1).lt_or_eq with e | e
      · exact .inr (.inl e)
      · exact .inr (.inr ⟨e, hs.1 ht e⟩)
  · by_cases ht : f s.a2 = ⊤
    · exact .inl ht
    · rcases (hf.mono l2).lt_or_eq with e | e
      · exact .inr (.inl e)
      · exact .inr (.inr ⟨e, hs.2 ht e⟩)
  · have hkl : k % 128 = l.val := congrArg Fin.val hl
    obtain ⟨t, rfl⟩ : ∃ t, k = l.val + 128 * t := ⟨k / 128, by omega⟩
    have ht : t < 512 := by omega
    have hd : D (l.val + 128 * t) < ⊤ := lt_top_iff_ne_top.mpr (nt hg.ne)
    have has (x : EReal) (y : ℤ) := Tri.has_net ⟨f s.a0, f s.a1, f s.a2, s.b0, s.b1, s.b2⟩ x y
    rcases h.all t ht hd with ⟨rfl, e⟩ | ⟨rfl, e⟩ | ⟨rfl, e⟩ | b
    · exact .inl ((has _ _).mpr (.inl ⟨congrArg f e, (fin (e ▸ hd.ne) h.h0).2.2⟩))
    · exact .inl ((has _ _).mpr (.inr (.inl ⟨congrArg f e, (fin (e ▸ hd.ne) h.h1).2.2⟩)))
    · exact .inl ((has _ _).mpr (.inr (.inr ⟨congrArg f e, (fin (e ▸ hd.ne) h.h2).2.2⟩)))
    · have a2 : s.a2 ≠ ⊤ := fun e => by
        rw [e] at b
        exact b.elim not_top_lt fun b => hd.ne b.1.symm
      have a1 := ne_top_of_le_ne_top a2 l2
      have a0 := ne_top_of_le_ne_top a1 l1
      have b12 := h.o2.resolve_left a2
      have b01 := h.o1.resolve_left a1
      obtain ⟨u2, e2, k2⟩ := fin a2 h.h2
      obtain ⟨u1, e1, k1⟩ := fin a1 h.h1
      obtain ⟨u0, e0, k0⟩ := fin a0 h.h0
      have b1 := b12.trans b
      have b0 := b01.trans b1
      have hc : c < D (l.val + 128 * t) := by
        by_contra hc
        have hc := not_lt.mp hc
        have le {a : EReal} {u : ℕ} (hb : Before a u (D (l.val + 128 * t)) t) : a ≤ D (l.val + 128 * t) :=
          hb.elim le_of_lt fun hb => hb.1.le
        have m0 := (le b0).trans hc
        have m1 := (le b1).trans hc
        have m2 := (le b).trans hc
        have b02 := b01.trans b12
        rw [e0, e1] at b01
        rw [e1, e2] at b12
        rw [e0, e2] at b02
        rw [e0] at b0 m0
        rw [e1] at b1 m1
        rw [e2] at b m2
        have q01 := Before.ne (d := fun t => D (l.val + 128 * t)) b01
        have q12 := Before.ne (d := fun t => D (l.val + 128 * t)) b12
        have q02 := Before.ne (d := fun t => D (l.val + 128 * t)) b02
        have q0 := Before.ne (d := fun t => D (l.val + 128 * t)) b0
        have q1 := Before.ne (d := fun t => D (l.val + 128 * t)) b1
        have q2 := Before.ne (d := fun t => D (l.val + 128 * t)) b
        have := few (({t0, t1, t2, t} : Finset ℕ).image fun t => l.val + 128 * t) (fun k hk => by
          simp only [Finset.mem_image, Finset.mem_insert, Finset.mem_singleton] at hk
          obtain ⟨u, rfl | rfl | rfl | rfl, rfl⟩ := hk
          · exact ⟨lt u0, m0⟩
          · exact ⟨lt u1, m1⟩
          · exact ⟨lt u2, m2⟩
          · exact ⟨lt ht, hc⟩)
        rw [Finset.card_image_of_injective _ (fun a b (hab : l.val + 128 * a = l.val + 128 * b) => by omega)] at this
        have h4 : ({t0, t1, t2, t} : Finset ℕ).card = 4 := by
          rw [Finset.card_insert_of_notMem (by simp; tauto), Finset.card_insert_of_notMem (by simp; tauto),
            Finset.card_insert_of_notMem (by simp; tauto), Finset.card_singleton]
        omega
      have up {a : EReal} {y : ℤ} {u : ℕ} (hb : Before a u (D (l.val + 128 * t)) t) (hy : y = ((l.val + 128 * u : ℕ) : ℤ)) :
          Lt (f a) y (f (D (l.val + 128 * t))) ((l.val + 128 * t : ℕ) : ℤ) := by
        rcases hb with hb | ⟨hb, hu⟩
        · exact .inl (hf.strict _ _ hc hb)
        · exact .inr ⟨congrArg f hb, by rw [hy]; omega⟩
      refine .inr fun x y hxy => ?_
      rcases (has x y).mp hxy with ⟨rfl, rfl⟩ | ⟨rfl, rfl⟩ | ⟨rfl, rfl⟩
      · exact up b0 k0
      · exact up b1 k1
      · exact up b k2

/-! ## The lanes together -/

/-- The first `d` slots of the lanes hold the first columns of `R`. -/
structure Ok (g : ℕ → EReal) (R : Finset ℕ) (d : ℕ) (A : Fin 128 → ℕ → EReal) (B : Fin 128 → ℕ → ℤ) : Prop where
  mem : ∀ l j, j < d → A l j = ⊤ ∨ ∃ k ∈ R, lane k = l ∧ A l j = g k ∧ B l j = k
  ord : ∀ l j, j + 1 < d → A l (j + 1) = ⊤ ∨ Lt (A l j) (B l j) (A l (j + 1)) (B l (j + 1))
  all : ∀ k ∈ R, g k < ⊤ → (∃ j < d, A (lane k) j = g k ∧ B (lane k) j = k) ∨
    ∀ j < d, Lt (A (lane k) j) (B (lane k) j) (g k) k

/-- A slot of a lane by its number. -/
def Tri.a (s : Tri) : ℕ → EReal
  | 0 => s.a0
  | 1 => s.a1
  | _ => s.a2

def Tri.b (s : Tri) : ℕ → ℤ
  | 0 => s.b0
  | 1 => s.b1
  | _ => s.b2

theorem Tri.has_slot (s : Tri) : ∀ j, s.Has (s.a j) (s.b j)
  | 0 => .inl ⟨rfl, rfl⟩
  | 1 => .inr (.inl ⟨rfl, rfl⟩)
  | _ + 2 => .inr (.inr ⟨rfl, rfl⟩)

theorem Tri.slot_of_has {s : Tri} {x : EReal} {y : ℤ} (h : s.Has x y) : ∃ j < 3, s.a j = x ∧ s.b j = y := by
  rcases h with h | h | h
  · exact ⟨0, by decide, h⟩
  · exact ⟨1, by decide, h⟩
  · exact ⟨2, by decide, h⟩

theorem ok_of_lanes {g : ℕ → EReal} {s : Fin 128 → Tri} (h : ∀ l, LaneOk g l (s l)) :
    Ok g (Finset.range 65536) 3 (fun l j => (s l).a j) (fun l j => (s l).b j) where
  mem l j _ := ((h l).mem _ _ ((s l).has_slot j)).imp id fun ⟨k, hk, e⟩ => ⟨k, Finset.mem_range.mpr hk, e⟩
  ord l j hj := by
    rcases j with _ | _ | j
    · exact (h l).o1
    · exact (h l).o2
    · omega
  all k hk hg := by
    rcases (h (lane k)).all k (Finset.mem_range.mp hk) rfl hg with e | e
    · exact .inl (Tri.slot_of_has e)
    · exact .inr fun j _ => e _ _ ((s (lane k)).has_slot j)

section round

variable {g : ℕ → EReal} {R : Finset ℕ} {d : ℕ} {A : Fin 128 → ℕ → EReal} {B : Fin 128 → ℕ → ℤ}

theorem Ok.lt_slot (h : Ok g R d A B) (l : Fin 128) {i j : ℕ} (hij : i < j) (hj : j < d) :
    A l j = ⊤ ∨ Lt (A l i) (B l i) (A l j) (B l j) := by
  induction j with
  | zero => omega
  | succ j ih =>
    rcases h.ord l j hj with e | e
    · exact .inl e
    · rcases Nat.lt_succ_iff_lt_or_eq.mp hij with hi | rfl
      · rcases ih hi (by omega) with t | t
        · exact .inl (top_le_iff.mp (t ▸ e.le))
        · exact .inr (t.trans e)
      · exact .inr e

/-- What a round picks: the first column of `R`. -/
structure Pick (g : ℕ → EReal) (R : Finset ℕ) (A : Fin 128 → ℕ → EReal) (B : Fin 128 → ℕ → ℤ) (k0 : ℕ) : Prop where
  mem : k0 ∈ R
  fin : g k0 < ⊤
  first : ∀ k ∈ R, k ≠ k0 → Lt (g k0) k0 (g k) k
  a : A (lane k0) 0 = g k0
  b : B (lane k0) 0 = k0
  least : ∀ l, g k0 ≤ A l 0
  col : ∀ l, A l 0 = g k0 → (k0 : ℤ) ≤ B l 0
  only : ∀ l, A l 0 = g k0 → B l 0 = k0 → l = lane k0

theorem Ok.pick (h : Ok g R (d + 1) A B) (hR : ∃ k ∈ R, g k < ⊤) : ∃ k0, Pick g R A B k0 := by
  obtain ⟨k1, hk1, hg1⟩ := hR
  obtain ⟨k0, hk0, hmin⟩ := Finset.exists_min_image R (fun k => toLex (g k, k)) ⟨k1, hk1⟩
  have hmin' : ∀ k ∈ R, g k0 < g k ∨ (g k0 = g k ∧ k0 ≤ k) := fun k hk => Prod.Lex.toLex_le_toLex.mp (hmin k hk)
  have hle : ∀ k ∈ R, g k0 ≤ g k := fun k hk => (hmin' k hk).elim le_of_lt fun e => e.1.le
  have hfirst : ∀ k ∈ R, k ≠ k0 → Lt (g k0) k0 (g k) k := fun k hk hne => by
    rcases hmin' k hk with e | ⟨e, e'⟩
    · exact .inl e
    · exact .inr ⟨e, by omega⟩
  have hg0 : g k0 < ⊤ := (hle k1 hk1).trans_lt hg1
  have hleast : ∀ l, g k0 ≤ A l 0 := fun l => by
    rcases h.mem l 0 (Nat.succ_pos d) with e | ⟨k, hk, -, e, -⟩
    · rw [e]; exact le_top
    · rw [e]; exact hle k hk
  have hsrc : ∀ l, A l 0 = g k0 → ∃ k ∈ R, lane k = l ∧ g k = g k0 ∧ B l 0 = k := fun l hl => by
    rcases h.mem l 0 (Nat.succ_pos d) with e | ⟨k, hk, hkl, e, e'⟩
    · exact absurd (hl ▸ e) hg0.ne
    · exact ⟨k, hk, hkl, e.symm.trans hl, e'⟩
  have hcol : ∀ l, A l 0 = g k0 → (k0 : ℤ) ≤ B l 0 := fun l hl => by
    obtain ⟨k, hk, -, e, e'⟩ := hsrc l hl
    rcases hmin' k hk with f | ⟨-, f⟩
    · exact absurd e f.ne'
    · rw [e']; exact_mod_cast f
  have hnot : ¬ Lt (A (lane k0) 0) (B (lane k0) 0) (g k0) k0 := fun hlt => by
    rcases hlt with e | ⟨e, e'⟩
    · exact absurd (hleast (lane k0)) (not_le.mpr e)
    · have := hcol _ e; omega
  have hat : A (lane k0) 0 = g k0 ∧ B (lane k0) 0 = k0 := by
    rcases h.all k0 hk0 hg0 with ⟨j, hj, ea, eb⟩ | e
    · rcases Nat.eq_zero_or_pos j with rfl | hj0
      · exact ⟨ea, eb⟩
      · rcases h.lt_slot (lane k0) hj0 hj with e | e
        · exact absurd (ea ▸ e) hg0.ne
        · rw [ea, eb] at e
          exact absurd e hnot
    · exact absurd (e 0 (Nat.succ_pos d)) hnot
  refine ⟨k0, hk0, hg0, hfirst, hat.1, hat.2, hleast, hcol, fun l hl hb => ?_⟩
  obtain ⟨k, hk, hkl, -, e'⟩ := hsrc l hl
  have : k = k0 := by have := e'.symm.trans hb; exact_mod_cast this
  rw [← hkl, this]

theorem Ok.next (h : Ok g R (d + 1) A B) {k0 : ℕ} (p : Pick g R A B k0) {A' : Fin 128 → ℕ → EReal} {B' : Fin 128 → ℕ → ℤ}
    (hA : ∀ l j, j < d → A' l j = if l = lane k0 then A l (j + 1) else A l j)
    (hB : ∀ l j, j < d → B' l j = if l = lane k0 then B l (j + 1) else B l j) : Ok g (R.erase k0) d A' B' where
  mem l j hj := by
    rw [hA l j hj, hB l j hj]
    by_cases hl : l = lane k0
    · rw [if_pos hl, if_pos hl]
      rcases h.mem l (j + 1) (by omega) with e | ⟨k, hk, hkl, e, e'⟩
      · exact .inl e
      · by_cases ht : A l (j + 1) = ⊤
        · exact .inl ht
        · refine .inr ⟨k, Finset.mem_erase.mpr ⟨?_, hk⟩, hkl, e, e'⟩
          rintro rfl
          have := (h.lt_slot l (Nat.succ_pos j) (by omega)).resolve_left ht
          rw [hl, p.a, p.b, ← hl, e, e'] at this
          exact this.irrefl
    · rw [if_neg hl, if_neg hl]
      rcases h.mem l j (by omega) with e | ⟨k, hk, hkl, e⟩
      · exact .inl e
      · exact .inr ⟨k, Finset.mem_erase.mpr ⟨fun c => hl (by rw [← hkl, c]), hk⟩, hkl, e⟩
  ord l j hj := by
    rw [hA l j (by omega), hB l j (by omega), hA l (j + 1) hj, hB l (j + 1) hj]
    by_cases hl : l = lane k0
    · simp only [if_pos hl]; exact h.ord l (j + 1) (by omega)
    · simp only [if_neg hl]; exact h.ord l j (by omega)
  all k hk hg := by
    obtain ⟨hne, hk⟩ := Finset.mem_erase.mp hk
    by_cases hl : lane k = lane k0
    · rcases h.all k hk hg with ⟨j, hj, ea, eb⟩ | e
      · rcases j with _ | j
        · rw [hl, p.b] at eb
          exact absurd (by exact_mod_cast eb.symm) hne
        · refine .inl ⟨j, by omega, ?_⟩
          rw [hA _ j (by omega), hB _ j (by omega), if_pos hl, if_pos hl]
          exact ⟨ea, eb⟩
      · refine .inr fun j hj => ?_
        rw [hA _ j hj, hB _ j hj, if_pos hl, if_pos hl]
        exact e (j + 1) (by omega)
    · have hA' : ∀ j, j < d → A' (lane k) j = A (lane k) j := fun j hj => (hA _ j hj).trans (if_neg hl)
      have hB' : ∀ j, j < d → B' (lane k) j = B (lane k) j := fun j hj => (hB _ j hj).trans (if_neg hl)
      rcases h.all k hk hg with ⟨j, hj, ea, eb⟩ | e
      · rcases Nat.lt_succ_iff_lt_or_eq.mp hj with hj | rfl
        · exact .inl ⟨j, hj, (hA' j hj).trans ea, (hB' j hj).trans eb⟩
        · refine .inr fun i hi => ?_
          rw [hA' i hi, hB' i hi, ← ea, ← eb]
          exact (h.lt_slot (lane k) hi (Nat.lt_succ_self _)).resolve_left (ea ▸ hg.ne)
      · refine .inr fun j hj => ?_
        rw [hA' j hj, hB' j hj]
        exact e j (by omega)

end round

end Cert.KernelIdeal.Sweep

end
-- ==== Proof.Elements.lean ====
module

public import proofs.«01_k».proof.Proof.Stores
public import proofs.«01_k».proof.Proof.Rounds
public import Idealize.ShloMosaic.Lib.SortNet.Extract

/-!
The kernel's arrays read one element at a time, over the extended reals: what a group of a block puts into a lane, and
that after the blocks each lane keeps its three first columns.
-/

@[expose] public section

set_option maxRecDepth 16384

noncomputable section

namespace Cert.KernelIdeal.Sweep

open Idealize.ShloMosaic Idealize.ShloMosaic.TcCoe Idealize.ShloMosaic.Tactic
open Cert.KernelIdeal Cert.KernelIdeal.Gen

/-! ## Constants -/

theorem ofBits_inf : Idealize.ShloMosaic.Ideal.ofBits .f32 0x7F800000#32 = ⊤ := by
  simp [Idealize.ShloMosaic.Ideal.ofBits, Idealize.ShloMosaic.Ideal.ieee]

theorem ofBits_two : Idealize.ShloMosaic.Ideal.ofBits .f32 0x40000000#32 = 2 := by
  simp [Idealize.ShloMosaic.Ideal.ofBits, Idealize.ShloMosaic.Ideal.ieee, -EReal.coe_mul]
  norm_num
  rfl

theorem ofBits_three : Idealize.ShloMosaic.Ideal.ofBits .f32 0x40400000#32 = ((3 : ℝ) : EReal) := by
  simp [Idealize.ShloMosaic.Ideal.ofBits, Idealize.ShloMosaic.Ideal.ieee, -EReal.coe_mul]
  norm_num

/-- The smallest squared distance whose root is taken. -/
def floorSq : EReal := Idealize.ShloMosaic.Ideal.ofBits .f32 0x2B8CBCCC#32

theorem floorSq_pos : ∃ x : ℝ, 0 < x ∧ floorSq = x := by
  refine ⟨9223372 * (2 : ℝ) ^ (-63 : ℤ), by positivity, ?_⟩
  simp [floorSq, Idealize.ShloMosaic.Ideal.ofBits, Idealize.ShloMosaic.Ideal.ieee, -EReal.coe_mul]

/-! ## The squared distance -/

/-- The squared distance of query `r` and bank row `k`, as the problem writes it. -/
def sqDist (q : FVec Ideal S784x1536 .f32) (b : FVec Ideal S65536x1536 .f32) (r : Fin 784) (k : ℕ) : EReal :=
  ∑ d, q (ix2 r d) * q (ix2 r d) + ∑ d, b (ix2 (Fin.ofNat 65536 k) d) * b (ix2 (Fin.ofNat 65536 k) d)
    - 2 * ∑ d, q (ix2 r d) * b (ix2 (Fin.ofNat 65536 k) d)

/-- Doubling commutes with a sum of extended reals. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, ← ih]
    exact EReal.left_distrib_of_nonneg_of_ne_top (by norm_num) (by decide) _ _

theorem add_self_mul (x y : EReal) : (x + x) * y = 2 * (x * y) := by
  have h : (2 : EReal) * x = x + x := by
    have := EReal.right_distrib_of_nonneg (a := 1) (b := 1) (c := x) (by norm_num) (by norm_num)
    rw [one_mul, one_add_one_eq_two] at this
    exact this
  rw [← h, mul_assoc]

/-- A sum over 1536 places, taken as twelve slices of 128 added up place by place. -/
theorem sum_slices (h : Fin 1536 → EReal) :
    ∑ d, h d = ∑ x : Fin 128, (h ⟨x.val, by omega⟩ + h ⟨128 + x.val, by omega⟩ + h ⟨256 + x.val, by omega⟩
      + h ⟨384 + x.val, by omega⟩ + h ⟨512 + x.val, by omega⟩ + h ⟨640 + x.val, by omega⟩ + h ⟨768 + x.val, by omega⟩
      + h ⟨896 + x.val, by omega⟩ + h ⟨1024 + x.val, by omega⟩ + h ⟨1152 + x.val, by omega⟩
      + h ⟨1280 + x.val, by omega⟩ + h ⟨1408 + x.val, by omega⟩) := by
  have e : ∑ d, h d = ∑ p : Fin 12 × Fin 128, h (finProdFinEquiv p) := (Equiv.sum_comp (finProdFinEquiv (m := 12) (n := 128)) h).symm
  rw [e, Fintype.sum_prod_type, Finset.sum_comm]
  refine Finset.sum_congr rfl fun x _ => ?_
  let G : Fin 12 → EReal := fun i => h ⟨128 * i.val + x.val, by omega⟩
  have v (i : Fin 12) : h (finProdFinEquiv (i, x)) = G i :=
    congrArg h (Fin.ext (by rw [finProdFinEquiv_apply_val]; simp only; omega))
  have g0 : G 0 = h ⟨x.val, by omega⟩ := congrArg h (Fin.ext (by simp))
  have hs : ∑ i, G i = G 0 + G 1 + G 2 + G 3 + G 4 + G 5 + G 6 + G 7 + G 8 + G 9 + G 10 + G 11 := by
    simp only [Fin.sum_univ_castSucc, Fin.sum_univ_zero, zero_add]
    rfl
  rw [Finset.sum_congr rfl fun i _ => v i, hs, g0]
  rfl

theorem msqOf_apply (x : Vec Ideal S2048x1536 .f32) (j : Fin 2048) :
    msqOf x (ix1 j) = ∑ d, x (ix2 j d) * x (ix2 j d) := by
  rw [sum_slices]
  pointwise [msqOf, k0_pay28]

theorem abOf_apply (x : Vec Ideal S2048x1536 .f32) (y : Vec Ideal S784x1536 .f32) (r : Fin 784) (j : Fin 2048) :
    abOf x y (ix2 r j) = ∑ d, y (ix2 r d) * x (ix2 j d) := by
  pointwise [abOf, k0_pay29]

/-! ## One group of a block -/

/-- The three slots of a place of a chunk. -/
def Six.tri (s : Six Ideal) (x : S56x128.Idx) : Tri :=
  ⟨s.a0 x, s.a1 x, s.a2 x, (s.b0 x).toInt, (s.b1 x).toInt, (s.b2 x).toInt⟩

theorem tri_ins (v : FVec Ideal S56x128 .f32) (x : IVec S56x128 32) (s : Six Ideal) (r : Fin 56) (l : Fin 128) :
    (ins v x s).tri (ix2 r l) = Tri.ins (v (ix2 r l)) (x (ix2 r l)).toInt (s.tri (ix2 r l)) := by
  have h0 : (ins v x s).a0 (ix2 r l) = min (s.a0 (ix2 r l)) (v (ix2 r l)) := by pointwise [ins]
  have h1 : (ins v x s).a1 (ix2 r l) = min (s.a1 (ix2 r l)) (max (s.a0 (ix2 r l)) (v (ix2 r l))) := by pointwise [ins]
  have h2 : (ins v x s).a2 (ix2 r l)
      = min (s.a2 (ix2 r l)) (max (s.a1 (ix2 r l)) (max (s.a0 (ix2 r l)) (v (ix2 r l)))) := by pointwise [ins]
  have k0 : (ins v x s).b0 (ix2 r l) = if v (ix2 r l) < s.a0 (ix2 r l) then x (ix2 r l) else s.b0 (ix2 r l) := by
    pointwise [ins]
  have k1 : (ins v x s).b1 (ix2 r l) = if v (ix2 r l) < s.a0 (ix2 r l) then s.b0 (ix2 r l) else
      if v (ix2 r l) < s.a1 (ix2 r l) then x (ix2 r l) else s.b1 (ix2 r l) := by pointwise [ins]
  have k2 : (ins v x s).b2 (ix2 r l) = if v (ix2 r l) < s.a1 (ix2 r l) then s.b1 (ix2 r l) else
      if v (ix2 r l) < s.a2 (ix2 r l) then x (ix2 r l) else s.b2 (ix2 r l) := by pointwise [ins]
  unfold Six.tri Tri.ins
  simp only [h0, h1, h2, k0, k1, k2, apply_ite BitVec.toInt]

/-- The first `j` groups, last first. -/
def below : (j : ℕ) → j ≤ 16 → List (Fin 16)
  | 0, _ => []
  | j + 1, h => ⟨j, h⟩ :: below j (Nat.le_of_succ_le h)

theorem groups_eq : groups = below 16 le_rfl := by decide

theorem cols_apply (b : ℕ) (hb : b < 32) (g : Fin 16) (r : Fin 56) (l : Fin 128) :
    (cols (BitVec.ofNat 32 (2048 * b)) g (ix2 r l)).toInt = ((l.val + 128 * (16 * b + g.val) : ℕ) : ℤ) := by
  have h : cols (BitVec.ofNat 32 (2048 * b)) g (ix2 r l) = BitVec.ofNat 32 (l.val + 128 * (16 * b + g.val)) := by
    pointwise [cols]
    apply BitVec.eq_of_toNat_eq
    simp only [IntOp.addi, Scalar.addi, BitVec.toNat_add, BitVec.toNat_ofNat]
    omega
  rw [h, BitVec.toInt_eq_toNat_cond, BitVec.toNat_ofNat]
  have := g.isLt
  have := l.isLt
  split_ifs <;> omega

theorem dist_apply (msq : FVec Ideal S2048 .f32) (ab : FVec Ideal S784x2048 .f32) (qs : Vec Ideal S56x128 .f32) (c : Fin 14)
    (g : Fin 16) (r : Fin 56) (l : Fin 128) : dist msq ab qs c g (ix2 r l)
      = qs (ix2 r l) + msq (ix1 ⟨128 * g.val + l.val, by omega⟩)
        - ab (ix2 ⟨56 * c.val + r.val, by omega⟩ ⟨128 * g.val + l.val, by omega⟩) := by
  pointwise [dist]

theorem part_apply {e : EltTy} (X : Vec Ideal S784x128 e) (c : Fin 14) (r : Fin 56) (l : Fin 128) :
    part X c (ix2 r l) = X (ix2 ⟨56 * c.val + r.val, by omega⟩ l) := by
  pointwise [part, rows]

section block

variable (q : FVec Ideal S784x1536 .f32) (bk : FVec Ideal S65536x1536 .f32)

/-- The block's distances are the squared distances of the block's columns. -/
theorem dist_eq (b : ℕ) (hb : b < 32) (x1 : Vec Ideal S2048x1536 .f32)
    (hx1 : ∀ (a : Fin 2048) (d : Fin 1536), x1 (ix2 a d) = bk (ix2 ⟨2048 * b + a.val, by omega⟩ d))
    (S : Scr Ideal) (hqs : ∀ r l, S.qs (ix2 r l) = ∑ d, q (ix2 r d) * q (ix2 r d))
    (hq2 : ∀ r d, S.q2 (ix2 r d) = q (ix2 r d) + q (ix2 r d)) (c : Fin 14) (g : Fin 16) (r : Fin 56) (l : Fin 128) :
    dist (msqOf x1) (abOf x1 S.q2) (part S.qs c) c g (ix2 r l)
      = sqDist q bk ⟨56 * c.val + r.val, by omega⟩ (l.val + 128 * (16 * b + g.val)) := by
  have e : (Fin.ofNat 65536 (l.val + 128 * (16 * b + g.val))) = ⟨2048 * b + (128 * g.val + l.val), by omega⟩ :=
    Fin.ext (by simp only [Fin.val_ofNat]; omega)
  rw [dist_apply, part_apply, msqOf_apply, abOf_apply, hqs, sqDist, e, two_mul_sum]
  simp only [hx1, hq2, add_self_mul]

end block

/-! ## The blocks -/

/-- The three slots of a lane of a query. -/
def Scr.tri (S : Scr Ideal) (r : Fin 784) (l : Fin 128) : Tri :=
  ⟨S.a0 (ix2 r l), S.a1 (ix2 r l), S.a2 (ix2 r l), (S.b0 (ix2 r l)).toInt, (S.b1 (ix2 r l)).toInt, (S.b2 (ix2 r l)).toInt⟩

/-- The lane keeps its three first columns among the first `n`. -/
def LaneKept (D : ℕ → EReal) (l : Fin 128) (n : ℕ) (s : Tri) : Prop :=
  ∃ t0 t1 t2, Kept (fun t => D (l.val + 128 * t)) (fun t => ((l.val + 128 * t : ℕ) : ℤ)) n s t0 t1 t2

theorem six_tri (S : Scr Ideal) (c : Fin 14) (r : Fin 56) (l : Fin 128) :
    (S.six c).tri (ix2 r l) = S.tri ⟨56 * c.val + r.val, by omega⟩ l := by
  simp only [Six.tri, Scr.six, Scr.tri, part_apply]

/-- What the scratch holds after `b` blocks. -/
structure After (q : FVec Ideal S784x1536 .f32) (bk : FVec Ideal S65536x1536 .f32) (b : ℕ) (S : Scr Ideal) : Prop where
  qs : ∀ r l, S.qs (ix2 r l) = ∑ d, q (ix2 r d) * q (ix2 r d)
  q2 : ∀ r d, S.q2 (ix2 r d) = q (ix2 r d) + q (ix2 r d)
  kept : ∀ r l, LaneKept (sqDist q bk r) l (16 * b) (S.tri r l)

theorem after_init (q : FVec Ideal S784x1536 .f32) (bk : FVec Ideal S65536x1536 .f32) : After q bk 0 (Scr.init (F := Ideal) q) where
  qs r l := by pointwise [Scr.init, k0_pay1]
  q2 r d := by pointwise [Scr.init, k0_pay2]
  kept r l := by
    have h : (Scr.init (F := Ideal) q).a0 (ix2 r l) = ⊤ ∧ (Scr.init (F := Ideal) q).a1 (ix2 r l) = ⊤ ∧ (Scr.init (F := Ideal) q).a2 (ix2 r l) = ⊤ :=
      ⟨ofBits_inf, ofBits_inf, ofBits_inf⟩
    unfold Scr.tri
    rw [h.1, h.2.1, h.2.2]
    exact ⟨0, 0, 0, Kept.empty _ _ _ _ _⟩

theorem After.step {q : FVec Ideal S784x1536 .f32} {bk : FVec Ideal S65536x1536 .f32} {b : ℕ} {S : Scr Ideal}
    (h : After q bk b S) (hb : b < 32) (x1 : Vec Ideal S2048x1536 .f32)
    (hx1 : ∀ (a : Fin 2048) (d : Fin 1536), x1 (ix2 a d) = bk (ix2 ⟨2048 * b + a.val, by omega⟩ d))
    (i : grid0.Coords) (hi : baseOf i = BitVec.ofNat 32 (2048 * b)) : After q bk (b + 1) (S.step x1 i) where
  qs := h.qs
  q2 := h.q2
  kept r l := by
    obtain ⟨c, r', e⟩ : ∃ (c : Fin 14) (r' : Fin 56), r = ⟨56 * c.val + r'.val, by omega⟩ :=
      ⟨⟨r.val / 56, by omega⟩, ⟨r.val % 56, by omega⟩, Fin.ext (by simp only; omega)⟩
    have et : (S.step x1 i).tri r l = (S.after x1 i c).tri (ix2 r' l) := by
      subst e
      have := six_tri (S.step x1 i) c r' l
      rw [← this]
      simp only [Scr.six, Scr.step, part_glue]
    have run : ∀ (j : ℕ) (hj : j ≤ 16), LaneKept (sqDist q bk r) l (16 * b + j)
        ((sweep (msqOf x1) (abOf x1 S.q2) (baseOf i) (part S.qs c) c (S.six c) (below j hj)).tri (ix2 r' l)) := by
      intro j
      induction j with
      | zero =>
        intro _
        show LaneKept _ _ _ ((S.six c).tri (ix2 r' l))
        rw [six_tri, ← e]
        exact h.kept r l
      | succ j ih =>
        intro hj
        obtain ⟨t0, t1, t2, hk⟩ := ih (Nat.le_of_succ_le hj)
        have := hk.step
        rw [hi] at this ⊢
        show LaneKept _ _ _ ((ins _ _ (sweep (msqOf x1) (abOf x1 S.q2) _ (part S.qs c) c (S.six c) (below j _))).tri
          (ix2 r' l))
        rw [tri_ins, dist_eq q bk b hb x1 hx1 S h.qs h.q2, cols_apply b hb, ← e]
        exact this
    rw [et]
    have := run 16 le_rfl
    rw [← groups_eq] at this
    exact this

end Cert.KernelIdeal.Sweep

end
-- ==== Proof.Finish.lean ====
module

public import proofs.«01_k».proof.Proof.Elements

/-!
The kernel's last point, read one query at a time over the extended reals: distances from squared distances, and the three
rounds over the lanes, which give the three first columns in the order (distance, column).
-/

@[expose] public section

set_option maxRecDepth 16384

noncomputable section

namespace Cert.KernelIdeal.Sweep

open Idealize.ShloMosaic Idealize.ShloMosaic.TcCoe Idealize.ShloMosaic.Tactic
open Cert.KernelIdeal Cert.KernelIdeal.Gen

/-! ## Distances -/

/-- The distance of a squared distance. -/
def away (x : EReal) : EReal := Idealize.ShloMosaic.Ideal.sqrt (max x floorSq)

theorem away_coe (c : ℝ) (hc : 0 < c) (hf : floorSq = c) (x : ℝ) : away x = (Real.sqrt (max x c) : ℝ) := by
  unfold away
  rw [hf, ← EReal.coe_strictMono.monotone.map_max]
  show (if max x c < 0 then (⊥ : EReal) else _) = _
  rw [if_neg (not_lt.mpr (hc.le.trans (le_max_right x c)))]

theorem away_bot (c : ℝ) (hc : 0 < c) (hf : floorSq = c) : away ⊥ = (Real.sqrt c : ℝ) := by
  have h := away_coe c hc hf c
  rw [max_self] at h
  rw [← h]
  unfold away
  rw [hf, max_self, max_eq_right bot_le]

theorem away_top : away ⊤ = ⊤ := by
  unfold away
  rw [max_eq_left le_top]
  rfl

theorem clamp_away : Clamp away floorSq := by
  obtain ⟨c, hc, hf⟩ := floorSq_pos
  have strict : ∀ x y, floorSq < y → x < y → away x < away y := fun x y hy hxy => by
    rw [hf] at hy
    induction y with
    | bot => exact absurd hxy not_lt_bot
    | top =>
      rw [away_top]
      induction x with
      | bot => rw [away_bot c hc hf]; exact EReal.coe_lt_top _
      | top => exact absurd hxy (lt_irrefl _)
      | coe x => rw [away_coe c hc hf]; exact EReal.coe_lt_top _
    | coe y =>
      have hy := EReal.coe_lt_coe_iff.mp hy
      rw [away_coe c hc hf y, max_eq_left hy.le]
      induction x with
      | bot =>
        rw [away_bot c hc hf]
        exact EReal.coe_lt_coe_iff.mpr (Real.sqrt_lt_sqrt hc.le hy)
      | top => exact absurd hxy not_top_lt
      | coe x =>
        rw [away_coe c hc hf x]
        exact EReal.coe_lt_coe_iff.mpr (Real.sqrt_lt_sqrt (hc.le.trans (le_max_right x c))
          (max_lt (EReal.coe_lt_coe_iff.mp hxy) hy))
  refine ⟨fun x y hxy => ?_, strict, away_top, fun x hx => ?_⟩
  · rcases hxy.lt_or_eq with h | rfl
    · by_cases hy : floorSq < y
      · exact (strict x y hy h).le
      · have hy := not_lt.mp hy
        unfold away
        rw [max_eq_right hy, max_eq_right (hxy.trans hy)]
    · exact le_rfl
  · induction x with
    | bot => rw [away_bot c hc hf] at hx; exact absurd hx (EReal.coe_ne_top _)
    | top => rfl
    | coe x => rw [away_coe c hc hf] at hx; exact absurd hx (EReal.coe_ne_top _)

/-! ## The lanes at a query -/

/-- The three slots of a lane of a query. -/
def Lanes.tri (L : Lanes Ideal) (r : Fin 784) (l : Fin 128) : Tri :=
  ⟨L.a0 (ix2 r l), L.a1 (ix2 r l), L.a2 (ix2 r l), (L.b0 (ix2 r l)).toInt, (L.b1 (ix2 r l)).toInt, (L.b2 (ix2 r l)).toInt⟩

theorem select_swap (p : Prop) [Decidable p] (x y a b : BitVec 32) :
    (Scalar.select (IntOp.andi (BitVec.ofBool (decide p)) (IntOp.cmpi .slt x y)) a b).toInt
      = if p ∧ x.toInt < y.toInt then a.toInt else b.toInt := by
  have h : IntOp.cmpi .slt x y = BitVec.ofBool (decide (x.toInt < y.toInt)) := rfl
  rw [h, ← apply_ite BitVec.toInt]
  by_cases hp : p <;> by_cases hx : x.toInt < y.toInt <;> simp [hp, hx, Scalar.select, IntOp.andi]

theorem tri_swap01 (L : Lanes Ideal) (r : Fin 784) (l : Fin 128) : L.swap01.tri r l = (L.tri r l).swap01 := by
  have h0 : L.swap01.b0 (ix2 r l) = Scalar.select (IntOp.andi (BitVec.ofBool (decide (L.a0 (ix2 r l) = L.a1 (ix2 r l))))
      (IntOp.cmpi .slt (L.b1 (ix2 r l)) (L.b0 (ix2 r l)))) (L.b1 (ix2 r l)) (L.b0 (ix2 r l)) := by pointwise [Lanes.swap01]
  have h1 : L.swap01.b1 (ix2 r l) = Scalar.select (IntOp.andi (BitVec.ofBool (decide (L.a0 (ix2 r l) = L.a1 (ix2 r l))))
      (IntOp.cmpi .slt (L.b1 (ix2 r l)) (L.b0 (ix2 r l)))) (L.b0 (ix2 r l)) (L.b1 (ix2 r l)) := by pointwise [Lanes.swap01]
  unfold Lanes.tri Tri.swap01
  rw [h0, h1, select_swap, select_swap]
  rfl

theorem tri_swap12 (L : Lanes Ideal) (r : Fin 784) (l : Fin 128) : L.swap12.tri r l = (L.tri r l).swap12 := by
  have h0 : L.swap12.b1 (ix2 r l) = Scalar.select (IntOp.andi (BitVec.ofBool (decide (L.a1 (ix2 r l) = L.a2 (ix2 r l))))
      (IntOp.cmpi .slt (L.b2 (ix2 r l)) (L.b1 (ix2 r l)))) (L.b2 (ix2 r l)) (L.b1 (ix2 r l)) := by pointwise [Lanes.swap12]
  have h1 : L.swap12.b2 (ix2 r l) = Scalar.select (IntOp.andi (BitVec.ofBool (decide (L.a1 (ix2 r l) = L.a2 (ix2 r l))))
      (IntOp.cmpi .slt (L.b2 (ix2 r l)) (L.b1 (ix2 r l)))) (L.b1 (ix2 r l)) (L.b2 (ix2 r l)) := by pointwise [Lanes.swap12]
  unfold Lanes.tri Tri.swap12
  rw [h0, h1, select_swap, select_swap]
  rfl

theorem tri_lanes (S : Scr Ideal) (r : Fin 784) (l : Fin 128) : S.lanes.tri r l = (S.tri r l).finish away := by
  unfold Scr.lanes Lanes.of Tri.finish Tri.net
  rw [tri_swap01, tri_swap12, tri_swap01]
  have h (x : FVec Ideal S784x128 .f32) : root x (ix2 r l) = away (x (ix2 r l)) := by
    pointwise [root]
    rfl
  unfold Lanes.tri
  simp only [h]
  rfl

theorem best_apply (L : Lanes Ideal) (r : Fin 784) : L.best (ix1 r) = Finset.univ.fold min ⊤ fun l => L.a0 (ix2 r l) := by
  rw [← ofBits_inf]
  pointwise [Lanes.best]

theorem who_apply (L : Lanes Ideal) (r : Fin 784) : (L.who (ix1 r)).toInt
    = Finset.univ.fold min 2147483647 fun l => if L.a0 (ix2 r l) = L.best (ix1 r) then (L.b0 (ix2 r l)).toInt else 65536 := by
  have h : L.who (ix1 r) = Finset.univ.fold IntOp.minsi 2147483647#32
      fun l => if L.a0 (ix2 r l) = L.best (ix1 r) then L.b0 (ix2 r l) else 65536#32 := by
    pointwise [Lanes.who, Lanes.hit]
  rw [h, ← Finset.fold_hom (op' := min) (m := BitVec.toInt) fun x y => SortNet.toInt_minsi x y]
  simp only [apply_ite BitVec.toInt]
  rfl

theorem sel_apply (L : Lanes Ideal) (r : Fin 784) (l : Fin 128) :
    L.sel (ix2 r l) = 1#1 ↔ L.a0 (ix2 r l) = L.best (ix1 r) ∧ L.b0 (ix2 r l) = L.who (ix1 r) := by
  have h : L.sel (ix2 r l) = IntOp.andi (BitVec.ofBool (decide (L.a0 (ix2 r l) = L.best (ix1 r))))
      (BitVec.ofBool (decide (L.b0 (ix2 r l) = L.who (ix1 r)))) := by
    have e (x y : BitVec 32) : IntOp.cmpi .eq x y = BitVec.ofBool (decide (x = y)) := rfl
    rw [← e]
    pointwise [Lanes.sel, Lanes.hit]
  rw [h]
  by_cases h1 : L.a0 (ix2 r l) = L.best (ix1 r) <;> by_cases h2 : L.b0 (ix2 r l) = L.who (ix1 r) <;>
    simp [h1, h2, IntOp.andi]

section round

variable {L : Lanes Ideal} {r : Fin 784} {g : ℕ → EReal} {R : Finset ℕ} {k0 : ℕ}

/-- The slots of a query's lanes. -/
abbrev valsAt (L : Lanes Ideal) (r : Fin 784) : Fin 128 → ℕ → EReal := fun l j => (L.tri r l).a j
abbrev colsAt (L : Lanes Ideal) (r : Fin 784) : Fin 128 → ℕ → ℤ := fun l j => (L.tri r l).b j

theorem best_of_pick (p : Pick g R (valsAt L r) (colsAt L r) k0) : L.best (ix1 r) = g k0 := by
  rw [best_apply]
  refine le_antisymm ?_ ?_
  · exact Finset.fold_min_le _ |>.mpr (.inr ⟨lane k0, Finset.mem_univ _, p.a.le⟩)
  · exact Finset.le_fold_min _ |>.mpr ⟨le_top, fun l _ => p.least l⟩

theorem who_of_pick (p : Pick g R (valsAt L r) (colsAt L r) k0) (hk : k0 < 65536) : (L.who (ix1 r)).toInt = k0 := by
  rw [who_apply, best_of_pick p]
  refine le_antisymm ?_ ?_
  · refine Finset.fold_min_le _ |>.mpr (.inr ⟨lane k0, Finset.mem_univ _, ?_⟩)
    rw [if_pos (show L.a0 (ix2 r (lane k0)) = g k0 from p.a)]
    exact p.b.le
  · refine Finset.le_fold_min _ |>.mpr ⟨by omega, fun l _ => ?_⟩
    split_ifs with h
    · exact p.col l h
    · omega

theorem sel_of_pick (p : Pick g R (valsAt L r) (colsAt L r) k0) (hk : k0 < 65536) (l : Fin 128) :
    L.sel (ix2 r l) = 1#1 ↔ l = lane k0 := by
  rw [sel_apply, best_of_pick p]
  constructor
  · rintro ⟨ha, hb⟩
    exact p.only l ha ((congrArg BitVec.toInt hb).trans (who_of_pick p hk))
  · rintro rfl
    exact ⟨p.a, BitVec.eq_of_toInt_eq ((show (L.b0 (ix2 r (lane k0))).toInt = k0 from p.b).trans (who_of_pick p hk).symm)⟩

theorem ok_drop {d : ℕ} (hd : d ≤ 2) (h : Ok g R (d + 1) (valsAt L r) (colsAt L r))
    (p : Pick g R (valsAt L r) (colsAt L r) k0) (hk : k0 < 65536) :
    Ok g (R.erase k0) d (valsAt L.drop r) (colsAt L.drop r) := by
  have sel {α : Type} (l : Fin 128) (x y : α) : Scalar.select (L.sel (ix2 r l)) x y = if l = lane k0 then x else y :=
    if_congr (sel_of_pick p hk l) rfl rfl
  refine h.next p (fun l j hj => ?_) (fun l j hj => ?_)
  · obtain rfl | rfl : j = 0 ∨ j = 1 := by omega
    · exact sel l (L.a1 (ix2 r l)) (L.a0 (ix2 r l))
    · exact sel l (L.a2 (ix2 r l)) (L.a1 (ix2 r l))
  · obtain rfl | rfl : j = 0 ∨ j = 1 := by omega
    · exact (congrArg BitVec.toInt (sel l (L.b1 (ix2 r l)) (L.b0 (ix2 r l)))).trans (apply_ite BitVec.toInt _ _ _)
    · exact (congrArg BitVec.toInt (sel l (L.b2 (ix2 r l)) (L.b1 (ix2 r l)))).trans (apply_ite BitVec.toInt _ _ _)

end round

/-- The three first columns. -/
structure Three (g : ℕ → EReal) (k : Fin 3 → ℕ) : Prop where
  lt : ∀ i, k i < 65536
  ord : ∀ i j, i < j → Lt (g (k i)) (k i) (g (k j)) (k j)
  rest : ∀ p < 65536, (∀ j, k j ≠ p) → ∀ i, Lt (g (k i)) (k i) (g p) p

theorem ofNat_of_toInt {x : BitVec 32} {k : ℕ} (hk : k < 65536) (h : x.toInt = k) : x = BitVec.ofNat 32 k := by
  apply BitVec.eq_of_toInt_eq
  rw [h, BitVec.toInt_eq_toNat_cond, BitVec.toNat_ofNat]
  split_ifs <;> omega

/-- The three rounds give the three first columns. -/
theorem rounds_three {L : Lanes Ideal} {r : Fin 784} {g : ℕ → EReal}
    (h : Ok g (Finset.range 65536) 3 (valsAt L r) (colsAt L r))
    (enough : 3 ≤ ((Finset.range 65536).filter fun k => g k < ⊤).card) :
    ∃ k, Three g k ∧ ∀ j, L.vals (ix2 r j) = g (k j) ∧ L.idxs (ix2 r j) = BitVec.ofNat 32 (k j) := by
  have more {s : Finset ℕ} {R : Finset ℕ} (hs : 1 ≤ s.card) (hR : ∀ k ∈ s, k ∈ R ∧ g k < ⊤) : ∃ k ∈ R, g k < ⊤ := by
    obtain ⟨k, hk⟩ := Finset.card_pos.mp hs
    exact ⟨k, hR k hk⟩
  have flt : ∀ k ∈ (Finset.range 65536).filter fun k => g k < ⊤, k ∈ Finset.range 65536 ∧ g k < ⊤ := fun k hk =>
    Finset.mem_filter.mp hk
  obtain ⟨k0, p0⟩ := h.pick (more (by omega) flt)
  have lt0 := Finset.mem_range.mp p0.mem
  have h1 := ok_drop le_rfl h p0 lt0
  have er {s : Finset ℕ} {R : Finset ℕ} (hR : ∀ k ∈ s, k ∈ R ∧ g k < ⊤) (a : ℕ) :
      ∀ k ∈ s.erase a, k ∈ R.erase a ∧ g k < ⊤ := fun k hk => by
    obtain ⟨hne, hk⟩ := Finset.mem_erase.mp hk
    exact ⟨Finset.mem_erase.mpr ⟨hne, (hR k hk).1⟩, (hR k hk).2⟩
  have c1 := Finset.pred_card_le_card_erase (s := (Finset.range 65536).filter fun k => g k < ⊤) (a := k0)
  obtain ⟨k1, p1⟩ := h1.pick (more (by omega) (er flt k0))
  have m1 := Finset.mem_erase.mp p1.mem
  have lt1 := Finset.mem_range.mp m1.2
  have h2 := ok_drop (by decide) h1 p1 lt1
  have c2 := Finset.pred_card_le_card_erase (s := ((Finset.range 65536).filter fun k => g k < ⊤).erase k0) (a := k1)
  obtain ⟨k2, p2⟩ := h2.pick (more (by omega) (er (er flt k0) k1))
  have m2 := Finset.mem_erase.mp p2.mem
  have m2' := Finset.mem_erase.mp m2.2
  have lt2 := Finset.mem_range.mp m2'.2
  have o01 := p0.first k1 m1.2 m1.1
  have o12 := p1.first k2 m2.2 m2.1
  refine ⟨![k0, k1, k2], ⟨?_, ?_, ?_⟩, ?_⟩
  · intro i
    fin_cases i
    · exact lt0
    · exact lt1
    · exact lt2
  · intro i j hij
    fin_cases i <;> fin_cases j <;> first | exact absurd hij (by decide) | exact o01 | exact o12 | exact o01.trans o12
  · intro p hp hne
    have n0 : p ≠ k0 := fun e => hne 0 e.symm
    have n1 : p ≠ k1 := fun e => hne 1 e.symm
    have n2 : p ≠ k2 := fun e => hne 2 e.symm
    have o2 := p2.first p (Finset.mem_erase.mpr ⟨n1, Finset.mem_erase.mpr ⟨n0, Finset.mem_range.mpr hp⟩⟩) n2
    intro i
    fin_cases i
    · exact (o01.trans o12).trans o2
    · exact o12.trans o2
    · exact o2
  · have hv (j : Fin 3) : L.vals (ix2 r j) = (if j.val < 1 then L.best (ix1 r) else if j.val - 1 < 1 then L.drop.best (ix1 r)
        else L.drop.drop.best (ix1 r)) := by
      pointwise [Lanes.vals]
      simp only [dite_eq_ite]
    have hi (j : Fin 3) : L.idxs (ix2 r j) = (if j.val < 1 then L.who (ix1 r) else if j.val - 1 < 1 then L.drop.who (ix1 r)
        else L.drop.drop.who (ix1 r)) := by
      pointwise [Lanes.idxs]
      simp only [dite_eq_ite]
    have v0 := (hv 0).trans (if_pos (by decide))
    have v1 := (hv 1).trans ((if_neg (by decide)).trans (if_pos (by decide)))
    have v2 := (hv 2).trans ((if_neg (by decide)).trans (if_neg (by decide)))
    have i0 := (hi 0).trans (if_pos (by decide))
    have i1 := (hi 1).trans ((if_neg (by decide)).trans (if_pos (by decide)))
    have i2 := (hi 2).trans ((if_neg (by decide)).trans (if_neg (by decide)))
    intro j
    fin_cases j
    · exact ⟨v0.trans (best_of_pick p0), i0.trans (ofNat_of_toInt lt0 (who_of_pick p0 lt0))⟩
    · exact ⟨v1.trans (best_of_pick p1), i1.trans (ofNat_of_toInt lt1 (who_of_pick p1 lt1))⟩
    · exact ⟨v2.trans (best_of_pick p2), i2.trans (ofNat_of_toInt lt2 (who_of_pick p2 lt2))⟩

end Cert.KernelIdeal.Sweep

end
-- ==== Proof.KernelEnd.lean ====
module

public import proofs.«01_k».proof.Proof.Course
public import proofs.«01_k».proof.Proof.Finish

/-!
The kernel's results at the end of its run: after the last block of the bank the slots of every lane are the lane's three
first columns, and the three rounds give the three first columns of the row.
-/

@[expose] public section

set_option maxRecDepth 16384

noncomputable section

namespace Cert.KernelIdeal.Sweep

open Idealize.ShloMosaic Idealize.ShloMosaic.TcCoe Idealize.ShloMosaic.Tactic
open Cert.KernelIdeal Cert.KernelIdeal.Gen Cert.KernelIdeal.Value

variable (m : (ℓ : Loc nD τ sig) → Buf (Elt Ideal) ℓ) (c : Dev nD)

/-- The queries and the bank of a core, as the launch finds them. -/
abbrev queries : FVec Ideal S784x1536 .f32 := m (c.tc.loc main_arg0)
abbrev bank : FVec Ideal S65536x1536 .f32 := m (c.tc.loc main_arg1)

theorem query_block (t : Fin cfg0.N) : iblk m c 0 t = queries m c :=
  funext fun y => block_queries m c t y

theorem course_after (n : ℕ) (hn : n < 32) :
    After (queries m c) (bank m c) (n + 1) (course (queries m c) (fun t => iblk m c 1 t) n (lt_N hn)) := by
  induction n with
  | zero =>
    exact (after_init (queries m c) (bank m c)).step (by omega) _
      (fun a d => block_bank m c ⟨0, lt_N hn⟩ a d (by have := a.isLt; simp only; omega)) _ (base_val _)
  | succ n ih =>
    exact (ih (by omega)).step (by omega) _
      (fun a d => block_bank m c ⟨n + 1, lt_N hn⟩ a d (by have := a.isLt; simp only; omega)) _ (base_val _)

/-- A row's results, where at most three of its squared distances are at the floor and at least three are finite. -/
theorem kernel_three (r : Fin 784) (few : Few (sqDist (queries m c) (bank m c) r) floorSq)
    (enough : 3 ≤ ((Finset.range 65536).filter fun k => away (sqDist (queries m c) (bank m c) r k) < ⊤).card) :
    ∃ k : Fin 3 → ℕ, Three (fun k => away (sqDist (queries m c) (bank m c) r k)) k ∧
      ∀ j : Fin 3, G2 m c (ix2 r j) = away (sqDist (queries m c) (bank m c) r (k j)) ∧
        G3 m c (ix2 r j) = BitVec.ofNat 32 (k j) := by
  obtain ⟨e2, e3⟩ := results_course m c
  rw [e2, e3, query_block]
  have h := course_after m c 31 (by omega)
  generalize course (queries m c) (fun t => iblk m c 1 t) 31 (lt_N (by omega)) = S at h ⊢
  have lanes : ∀ l, LaneOk (fun k => away (sqDist (queries m c) (bank m c) r k)) l (S.lanes.tri r l) := by
    intro l
    obtain ⟨t0, t1, t2, hk⟩ := h.kept r l
    rw [tri_lanes]
    exact laneOk_of_kept clamp_away few l hk
  exact rounds_three (ok_of_lanes lanes) enough

end Cert.KernelIdeal.Sweep

end
-- ==== Proof.First.lean ====
module

public import proofs.«01_k».proof.Proof.Finish
public import Idealize.ShloMosaic.Lib.SortPrefix
public import proofs.«01_k».proof.Proof.Gen.ReferenceIdeal

/-!
A stable sort by the distance alone, whose first three places are the three first columns in the order (distance, column);
and a top-k read at one of its places.
-/

@[expose] public section

set_option maxRecDepth 16384

noncomputable section

namespace Cert.KernelIdeal.Sweep

open Idealize.ShloMosaic Cert.ReferenceIdeal

/-- Two relations that agree on a later element against an earlier one sort the list alike. -/
theorem stableSort_eq_of_later {ι : Type} (R R' : ι → ι → Bool) (l : List ι) (h : l.Pairwise fun a b => R b a = R' b a) :
    stableSort R l = stableSort R' l := by
  induction l with
  | nil => rfl
  | cons a l ih =>
    obtain ⟨h1, h2⟩ := List.pairwise_cons.mp h
    unfold stableSort
    rw [ih h2]
    exact insertBefore_congr R R' a _ fun b hb => h1 b ((perm_stableSort R' l).mem_iff.mp hb)

/-- Key first, then position. -/
def keyThenPos {n : ℕ} (key : Fin n → EReal) (k k' : Fin n) : Bool :=
  decide (key k < key k') || (decide (key k = key k') && decide (k < k'))

theorem keyThenPos_total {n : ℕ} (key : Fin n → EReal) : StrictTotalBefore (keyThenPos key) :=
  StrictTotalBefore.of_key_then_position (fun x y : EReal => decide (x < y)) key (fun a => by simp)
    (fun a b c hab hbc => by
      simp only [decide_eq_true_eq] at hab hbc ⊢
      exact lt_trans hab hbc)
    (fun a b => by
      simp only [decide_eq_true_eq]
      exact lt_trichotomy a b)

/-- A stable sort by the key alone is the sort by key and position. -/
theorem sortedFrom_key {n : ℕ} (key : Fin n → EReal) (R : Fin n → Fin n → Bool)
    (hR : ∀ k k', R k k' = decide (key k < key k')) : sortedFrom R = sortedFrom (keyThenPos key) := by
  have e : sortPositions n R = sortPositions n (keyThenPos key) := by
    refine stableSort_eq_of_later _ _ _ ((List.pairwise_lt_finRange n).imp ?_)
    intro a b hab
    rw [hR, keyThenPos, decide_eq_false (not_lt.mpr hab.le), Bool.and_false, Bool.or_false]
  funext i
  unfold sortedFrom
  rw [List.get_of_eq e]
  rfl

theorem keyThenPos_false {g : ℕ → EReal} {p q : Fin 65536} (h : Lt (g q.val) q.val (g p.val) p.val) :
    keyThenPos (fun k : Fin 65536 => g k.val) p q = false := by
  show (decide (g p.val < g q.val) || (decide (g p.val = g q.val) && decide (p < q))) = false
  rcases h with h | ⟨h, h'⟩
  · rw [decide_eq_false (not_lt.mpr h.le), decide_eq_false h.ne', Bool.false_and, Bool.or_false]
  · have h'' : q.val < p.val := Int.ofNat_lt.mp h'
    rw [decide_eq_false (not_lt.mpr h.le), decide_eq_false (not_lt.mpr (Fin.le_def.mpr h''.le)), Bool.and_false,
      Bool.or_false]

/-- The first three places of a stable sort by `g` come from the three first columns. -/
theorem Three.sortedFrom {g : ℕ → EReal} {k : Fin 3 → ℕ} (h : Three g k) (R : Fin 65536 → Fin 65536 → Bool)
    (hR : ∀ a b, R a b = decide (g a.val < g b.val)) (j : Fin 3) :
    (Idealize.ShloMosaic.sortedFrom R (j.castLE (by decide))).val = k j := by
  have e := (keyThenPos_total (fun q : Fin 65536 => g q.val)).sortedFrom_eq_of_prefix (k := 3) (by decide)
    (fun i => ⟨k i, h.lt i⟩)
    (fun i i' hi => by
      have hi : k i = k i' := congrArg Fin.val hi
      by_contra hne
      rcases lt_or_gt_of_ne hne with hlt | hlt
      · have := h.ord i i' hlt
        rw [hi] at this
        exact Lt.irrefl this
      · have := h.ord i' i hlt
        rw [hi] at this
        exact Lt.irrefl this)
    (fun i i' hlt => keyThenPos_false (h.ord i i' hlt))
    (fun i p hp => keyThenPos_false (h.rest p.val p.isLt (fun j' e' => hp j' (Fin.ext e')) i)) j
  rw [sortedFrom_key (fun q : Fin 65536 => g q.val) R hR]
  exact congrArg Fin.val e

/-! ## A top-k of the rows -/

section topk

variable {α : Type} (gt : α → α → BitVec 1) (x : S784x65536.Idx → α)
  (h : S784x65536.Slices (fun _ => 0) S784x3) (r : Fin 784) (j : Fin 3)

/-- The column a row's `j`-th place comes from. -/
def place : Fin 65536 :=
  Idealize.ShloMosaic.sortedFrom (fun k k' : Fin 65536 => gt (x (ix2 r k)) (x (ix2 r k')) == 1#1) (j.castLE (by decide))

theorem along_ix2 (a : Fin 784) (b k : Fin 65536) :
    Shape.Idx.along (s := S784x65536) (ix2 a b) (1 : Fin 2) k = ix2 a k := by
  funext i
  match i with
  | ⟨0, _⟩ => rfl
  | ⟨1, _⟩ => rfl

theorem cut_apply {β : Type} (y : S784x65536.Idx → β) :
    extractStridedSlice S784x3 (fun _ => 0) y h (ix2 r j) = y (ix2 r (j.castLE (by decide))) := by
  unfold extractStridedSlice
  refine congrArg y (funext fun i => ?_)
  match i with
  | ⟨0, _⟩ => exact Fin.ext (Nat.zero_add _)
  | ⟨1, _⟩ => exact Fin.ext (Nat.zero_add _)

/-- The column as the sort writes it. -/
theorem place_eq (b : Fin 65536) :
    Idealize.ShloMosaic.sortedFrom (n := 65536)
      (fun k k' => gt (x (Shape.Idx.along (s := S784x65536) (ix2 r b) (1 : Fin 2) k))
        (x (Shape.Idx.along (s := S784x65536) (ix2 r b) (1 : Fin 2) k')) == 1#1) (j.castLE (by decide)) = place gt x r j := by
  unfold place
  refine congrArg (fun R => Idealize.ShloMosaic.sortedFrom R (j.castLE (by decide))) (funext fun k => funext fun k' => ?_)
  rw [along_ix2 r b k, along_ix2 r b k']

theorem topK_vals : (Host.topK S784x3 1 gt x h).1 (ix2 r j) = x (ix2 r (place gt x r j)) := by
  unfold Host.topK
  dsimp only
  rw [cut_apply]
  unfold Host.sort2
  rw [dif_pos (show 1 < S784x65536.rank by decide)]
  refine congrArg x ?_
  refine Eq.trans ?_ (along_ix2 r (j.castLE (by decide)) (place gt x r j))
  exact congrArg (Shape.Idx.along (s := S784x65536) (ix2 r (j.castLE (by decide))) (1 : Fin 2)) (place_eq gt x r j _)

theorem iota_apply (a : Fin 784) (b : Fin 65536) (hd : 1 < S784x65536.rank) :
    iotaInDim S784x65536 32 ⟨1, hd⟩ (ix2 a b) = BitVec.ofNat 32 b.val := rfl

theorem sort2_snd {β : Type} (y : S784x65536.Idx → β) :
    (Host.sort2 S784x65536 1 (fun l r => gt l.1 r.1) x y).2 (ix2 r (j.castLE (by decide))) = y (ix2 r (place gt x r j)) := by
  unfold Host.sort2
  rw [dif_pos (show 1 < S784x65536.rank by decide)]
  refine congrArg y ?_
  refine Eq.trans ?_ (along_ix2 r (j.castLE (by decide)) (place gt x r j))
  exact congrArg (Shape.Idx.along (s := S784x65536) (ix2 r (j.castLE (by decide))) (1 : Fin 2)) (place_eq gt x r j _)

theorem topK_idxs : (Host.topK S784x3 1 gt x h).2 (ix2 r j) = BitVec.ofNat 32 (place gt x r j).val := by
  unfold Host.topK
  dsimp only
  rw [cut_apply, sort2_snd, dif_pos (show 1 < S784x65536.rank by decide), iota_apply]

end topk

end Cert.KernelIdeal.Sweep

end
-- ==== Proof.Plain.lean ====
module

public import proofs.«01_k».proof.Proof.First
public import proofs.«01_k».proof.Proof.Gen.ReferenceIdeal.Run

/-!
The reference's results, read one query at a time.
-/

@[expose] public section

set_option maxRecDepth 16384

noncomputable section

namespace Cert.ReferenceIdeal.Plain

open Idealize.ShloMosaic Idealize.ShloMosaic.TcCoe Idealize.ShloMosaic.Tactic
open Cert.ReferenceIdeal Cert.ReferenceIdeal.Gen
open Cert.KernelIdeal.Sweep (ofBits_two away floorSq sqDist Three place topK_vals topK_idxs)

/-- The reference's table of squared distances. -/
def d2 (q : FVec Ideal S784x1536 .f32) (b : FVec Ideal S65536x1536 .f32) : FVec Ideal S784x65536 .f32 :=
  subf (addf (broadcastInDim S784x65536 ![0, 1] bcast_S784x1_S784x65536_0_1 (broadcastInDim S784x1 ![0] bcast_S784_S784x1_0
      (Host.reduceAdd (mulf q q) (constant S_ .f32 0x00000000#32) reducesTo_S784x1536_S784_d1 h_S_)))
    (broadcastInDim S784x65536 ![0, 1] bcast_S1x65536_S784x65536_0_1 (broadcastInDim S1x65536 ![1] bcast_S65536_S1x65536_1
      (Host.reduceAdd (mulf b b) (constant S_ .f32 0x00000000#32) reducesTo_S65536x1536_S65536_d1 h_S_))))
    (mulf (broadcastInDim S784x65536 ![] bcast_S_S784x65536 (constant S_ .f32 0x40000000#32))
      (Host.dotGeneral dot_S784x1536_S1536x65536_S784x65536_1_0_0_1_n_n none q
        (transpose S1536x65536 [1, 0] b transposes_S65536x1536_S1536x65536_1_0)))

theorem d2_apply (q : FVec Ideal S784x1536 .f32) (b : FVec Ideal S65536x1536 .f32) (r : Fin 784) (k : Fin 65536) :
    d2 q b (ix2 r k) = sqDist q b r k.val := by
  have e : Fin.ofNat 65536 k.val = k := Fin.ext (Nat.mod_eq_of_lt k.isLt)
  rw [sqDist, e]
  pointwise [d2]
  rw [ofBits_two]

/-- The table the reference's top-k ranks: the distances negated. -/
def ranked (q : FVec Ideal S784x1536 .f32) (b : FVec Ideal S65536x1536 .f32) : FVec Ideal S784x65536 .f32 :=
  Host.negf (Host.sqrt (maximumf (d2 q b) (broadcastInDim S784x65536 ![] bcast_S_S784x65536 (constant S_ .f32 0x2B8CBCCC#32))))

theorem ranked_apply (q : FVec Ideal S784x1536 .f32) (b : FVec Ideal S65536x1536 .f32) (r : Fin 784) (k : Fin 65536) :
    ranked q b (ix2 r k) = -away (sqDist q b r k.val) := by
  rw [← d2_apply]
  unfold away floorSq
  pointwise [ranked]
  all_goals rfl

/-- The reference's two results, as functions of its arguments. -/
def first (q : FVec Ideal S784x1536 .f32) (b : FVec Ideal S65536x1536 .f32) :=
  Host.topK S784x3 1 (FloatOps.cmpfTotal (F := Ideal) (φ := .f32) .gt) (ranked q b) sliceFits_S784x65536_S784x3

/-- Where a row has three first columns, they are the reference's. -/
theorem reference_three (q : FVec Ideal S784x1536 .f32) (b : FVec Ideal S65536x1536 .f32) (r : Fin 784) (k : Fin 3 → ℕ)
    (h : Three (fun k => away (sqDist q b r k)) k) (j : Fin 3) :
    Host.negf (first q b).1 (ix2 r j) = away (sqDist q b r (k j)) ∧ (first q b).2 (ix2 r j) = BitVec.ofNat 32 (k j) := by
  have e : (place (FloatOps.cmpfTotal (F := Ideal) (φ := .f32) .gt) (ranked q b) r j).val = k j := by
    refine h.sortedFrom _ (fun a a' => ?_) j
    rw [ranked_apply, ranked_apply]
    show (BitVec.ofBool (decide (-away (sqDist q b r a'.val) < -away (sqDist q b r a.val))) == 1#1) = _
    simp only [EReal.neg_lt_neg_iff]
    by_cases hlt : away (sqDist q b r a.val) < away (sqDist q b r a'.val)
    · rw [decide_eq_true hlt]; rfl
    · rw [decide_eq_false hlt]; rfl
  constructor
  · show -(first q b).1 (ix2 r j) = _
    rw [first, topK_vals, ranked_apply, e, neg_neg]
  · rw [first, topK_idxs, e]

end Cert.ReferenceIdeal.Plain

end
-- ==== Proof.Settled.lean ====
module

public import proofs.«01_k».proof.Proof.Finish
public import proofs.«01_k».proof.Pre_three_settled

/-!
The precondition, read one query at a time: at most three squared distances at the floor or below, at least three finite.
-/

@[expose] public section

set_option maxRecDepth 16384

noncomputable section

namespace Cert.Pre_three_settled.Gen

open Idealize.ShloMosaic Cert.Pre_three_settled

/-- The side conditions of the precondition's operations. -/
instance facts : Cert.Pre_three_settled.Facts where
  reducesTo_S784x1536_S784_d1 := by decide
  h_S_ := by decide
  bcast_S784_S784x1_0 := by decide
  reducesTo_S65536x1536_S65536_d1 := by decide
  bcast_S65536_S1x65536_1 := by decide
  bcast_S784x1_S784x65536_0_1 := by decide
  bcast_S1x65536_S784x65536_0_1 := by decide
  transposes_S65536x1536_S1536x65536_1_0 := by decide
  bcast_S_S784x65536 := by decide
  reducesTo_S784x65536_S784_d1 := by decide
  bcast_S_S784 := by decide
  dot_S784x1536_S1536x65536_S784x65536_1_0_0_1_n_n_wf := by decide

end Cert.Pre_three_settled.Gen

namespace Cert.Pre_three_settled.Plain

open Idealize.ShloMosaic Idealize.ShloMosaic.Tactic
open Cert.Pre_three_settled Cert.Pre_three_settled.Gen Cert.Pre_three_settled.Facts
open Cert.KernelIdeal.Sweep (clamp_away away floorSq sqDist Few ofBits_inf ofBits_two ofBits_three)

/-- The precondition's table of squared distances. -/
def d2 (q : FVec Ideal S784x1536 .f32) (b : FVec Ideal S65536x1536 .f32) : FVec Ideal S784x65536 .f32 :=
  subf (addf (broadcastInDim S784x65536 ![0, 1] bcast_S784x1_S784x65536_0_1 (broadcastInDim S784x1 ![0] bcast_S784_S784x1_0
      (Host.reduceAdd (mulf q q) (constant S_ .f32 0x00000000#32) reducesTo_S784x1536_S784_d1 h_S_)))
    (broadcastInDim S784x65536 ![0, 1] bcast_S1x65536_S784x65536_0_1 (broadcastInDim S1x65536 ![1] bcast_S65536_S1x65536_1
      (Host.reduceAdd (mulf b b) (constant S_ .f32 0x00000000#32) reducesTo_S65536x1536_S65536_d1 h_S_))))
    (mulf (broadcastInDim S784x65536 ![] bcast_S_S784x65536 (constant S_ .f32 0x40000000#32))
      (Host.dotGeneral dot_S784x1536_S1536x65536_S784x65536_1_0_0_1_n_n none q
        (transpose S1536x65536 [1, 0] b transposes_S65536x1536_S1536x65536_1_0)))

theorem d2_apply (q : FVec Ideal S784x1536 .f32) (b : FVec Ideal S65536x1536 .f32) (r : Fin 784) (k : Fin 65536) :
    d2 q b (ix2 r k) = sqDist q b r k.val := by
  have e : Fin.ofNat 65536 k.val = k := Fin.ext (Nat.mod_eq_of_lt k.isLt)
  rw [sqDist, e]
  pointwise [d2]
  rw [ofBits_two]

/-- How many columns have a property, as a sum of ones. -/
theorem count {n : ℕ} (p : ℕ → Prop) [DecidablePred p] :
    (∑ k : Fin n, if p k.val then (1 : EReal) else 0) = (((Finset.range n).filter p).card : EReal) := by
  rw [Finset.sum_boole]
  refine congrArg (fun c : ℕ => (c : EReal)) (Finset.card_bij (fun k _ => k.val) ?_ ?_ ?_)
  · intro k hk
    exact Finset.mem_filter.mpr ⟨Finset.mem_range.mpr k.isLt, (Finset.mem_filter.mp hk).2⟩
  · intro k _ k' _ e
    exact Fin.ext e
  · intro k hk
    obtain ⟨hk, hp⟩ := Finset.mem_filter.mp hk
    exact ⟨⟨k, Finset.mem_range.mp hk⟩, Finset.mem_filter.mpr ⟨Finset.mem_univ _, hp⟩, rfl⟩

theorem both {p q : Prop} [Decidable p] [Decidable q]
    (h : IntOp.andi (BitVec.ofBool (decide p)) (BitVec.ofBool (decide q)) = 1#1) : p ∧ q := by
  by_cases hp : p <;> by_cases hq : q <;> simp_all [IntOp.andi]

theorem counts (q : FVec Ideal S784x1536 .f32) (b : FVec Ideal S65536x1536 .f32) (r : Fin 784)
    (h : fn (F := Ideal) q b (ix1 r) = 1#1) :
    ((Finset.range 65536).filter fun k => sqDist q b r k ≤ floorSq).card ≤ 3 ∧
      3 ≤ ((Finset.range 65536).filter fun k => sqDist q b r k < ⊤).card := by
  classical
  have e : fn (F := Ideal) q b (ix1 r) = IntOp.andi
      (BitVec.ofBool (decide ((∑ k : Fin 65536, if sqDist q b r k.val ≤ floorSq then (1 : EReal) else 0) ≤ (3 : ℝ))))
      (BitVec.ofBool (decide (((3 : ℝ) : EReal) ≤ ∑ k : Fin 65536, if sqDist q b r k.val < ⊤ then (1 : EReal) else 0))) := by
    show fn_part1 (F := Ideal) (d2 q b) (fn_where (F := Ideal) (cmpf .ole (d2 q b) (broadcastInDim S784x65536 ![] bcast_S_S784x65536 (constant S_ .f32 0x2B8CBCCC#32)))
      (constant S_ .f32 0x3F800000#32) (constant S_ .f32 0x00000000#32)) (ix1 r) = _
    simp only [fn_part1, id_eq]
    pointwise [fn_where]
    simp only [d2_apply, ofBits_inf, ofBits_three]
    rfl
  rw [e] at h
  obtain ⟨h1, h2⟩ := both h
  rw [count fun k => sqDist q b r k ≤ floorSq] at h1
  rw [count fun k => sqDist q b r k < ⊤] at h2
  constructor
  · exact_mod_cast h1
  · exact_mod_cast h2

/-- At most three squared distances of a settled row are at the floor or below. -/
theorem few (q : FVec Ideal S784x1536 .f32) (b : FVec Ideal S65536x1536 .f32) (r : Fin 784)
    (h : fn (F := Ideal) q b (ix1 r) = 1#1) : Few (sqDist q b r) floorSq := by
  classical
  intro S hS
  exact (Finset.card_le_card fun k hk => Finset.mem_filter.mpr ⟨Finset.mem_range.mpr (hS k hk).1, (hS k hk).2⟩).trans
    (counts q b r h).1

/-- At least three distances of a settled row are finite. -/
theorem enough (q : FVec Ideal S784x1536 .f32) (b : FVec Ideal S65536x1536 .f32) (r : Fin 784)
    (h : fn (F := Ideal) q b (ix1 r) = 1#1) :
    3 ≤ ((Finset.range 65536).filter fun k => away (sqDist q b r k) < ⊤).card := by
  refine (counts q b r h).2.trans (Finset.card_le_card fun k hk => ?_)
  obtain ⟨hk, hlt⟩ := Finset.mem_filter.mp hk
  refine Finset.mem_filter.mpr ⟨hk, lt_top_iff_ne_top.mpr fun e => hlt.ne (clamp_away.of_top _ e)⟩

end Cert.Pre_three_settled.Plain

end
-- ==== Proof.lean ====
/- The certificate of the nearest-neighbour kernel: the kernel and the plain program run and leave their arguments as they
   were; the idealized kernel is the kernel's own text; and over the extended reals the kernel's two results are the plain
   program's, wherever the three nearest columns are settled. The steps lie in the modules under Proof/:
   Sweep, Stores, Leaves, Init and Course read the run of the kernel as one recursion over the bank's blocks;
   Slots, Rounds, Elements, Finish and KernelEnd give that recursion its meaning, a query's three first columns;
   First and Plain read the plain program's top-k, and Settled the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.KernelEnd
public import proofs.«01_k».proof.Proof.Plain
public import proofs.«01_k».proof.Proof.Settled
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The plain program runs, leaves its arguments as they were, and has no counters. -/
theorem plain_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Where a core's rows are settled, its two results are the plain program's of the same arguments. -/
theorem results_eq (m : (ℓ : Loc Cert.KernelIdeal.nD Cert.KernelIdeal.τ Cert.KernelIdeal.sig) → Buf (Elt Ideal) ℓ)
    (hpre : Cert.Pre_KernelIdeal_three_settled m) (c : Dev Cert.KernelIdeal.nD) :
    Host.negf (Cert.ReferenceIdeal.Plain.first (Cert.KernelIdeal.Sweep.queries m c) (Cert.KernelIdeal.Sweep.bank m c)).1
        = Cert.KernelIdeal.Value.G2 m c
      ∧ (Cert.ReferenceIdeal.Plain.first (Cert.KernelIdeal.Sweep.queries m c) (Cert.KernelIdeal.Sweep.bank m c)).2
        = Cert.KernelIdeal.Value.G3 m c := by
  have row : ∀ (r : Fin 784) (j : Fin 3),
      Host.negf (Cert.ReferenceIdeal.Plain.first (Cert.KernelIdeal.Sweep.queries m c) (Cert.KernelIdeal.Sweep.bank m c)).1 (ix2 r j)
          = Cert.KernelIdeal.Value.G2 m c (ix2 r j)
        ∧ (Cert.ReferenceIdeal.Plain.first (Cert.KernelIdeal.Sweep.queries m c) (Cert.KernelIdeal.Sweep.bank m c)).2 (ix2 r j)
          = Cert.KernelIdeal.Value.G3 m c (ix2 r j) := by
    intro r j
    have h : Cert.Pre_three_settled.fn (F := Ideal) (Cert.KernelIdeal.Sweep.queries m c) (Cert.KernelIdeal.Sweep.bank m c)
        (ix1 r) = 1#1 := congrFun (hpre c) (ix1 r)
    obtain ⟨k, three, e⟩ := Cert.KernelIdeal.Sweep.kernel_three m c r (Cert.Pre_three_settled.Plain.few _ _ r h)
      (Cert.Pre_three_settled.Plain.enough _ _ r h)
    obtain ⟨f2, f3⟩ := Cert.ReferenceIdeal.Plain.reference_three _ _ r k three j
    exact ⟨f2.trans (e j).1.symm, f3.trans (e j).2.symm⟩
  constructor
  · funext i
    rw [eq_ix2 i]
    exact (row (i 0) (i 1)).1
  · funext i
    rw [eq_ix2 i]
    exact (row (i 0) (i 1)).2

/-- Over the extended reals the kernel's two results are the plain program's. -/
theorem algebraic : Cert.algebraic_KernelIdeal_ReferenceIdeal_pre_three_settled := by
  intro m g m' g' hpre hargs
  refine ⟨Cert.KernelIdeal.Value.G2 m, Cert.KernelIdeal.Value.G3 m, Cert.KernelIdeal.Value.run m g, ?_⟩
  refine (θ_run Cert.ReferenceIdeal.defs _ _).mono (fun r h c => ?_) (Cert.ReferenceIdeal.Value.run (F := Ideal) m' g')
  obtain ⟨h1, h2, h3, h4⟩ := h c
  obtain ⟨e1, e2⟩ := results_eq m hpre c
  refine ⟨h1.trans (Eq.trans ?_ e1), h2.trans (Eq.trans ?_ e2), h3, h4⟩
  · rw [(hargs c).1, (hargs c).2]
    rfl
  · rw [(hargs c).1, (hargs c).2]
    rfl

/-- `Cert.Claim` (Defs.lean): the frames by their generated certificates, the idealization by its empty ledger, and the
    equality of the results. -/
theorem claim : Cert.Claim := ⟨Cert.Kernel.Gen.facts, Cert.KernelIdeal.Gen.facts, Cert.ReferenceIdeal.Gen.facts,
  Cert.Pre_three_settled.Gen.facts,
  fun m ρ _ => Cert.Kernel.Gen.frame m ρ,
  fun m ρ _ => Cert.KernelIdeal.Gen.frame m ρ,
  fun m ρ _ => Cert.KernelIdeal.Gen.frame m ρ,
  plain_frame,
  fun m ρ _ => plain_frame m ρ (by trivial),
  trivial,
  algebraic⟩

end Cert.Proof

end
